-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1984x1024 : Shape := ⟨2, ![1984, 1024]⟩
abbrev S20 : Shape := ⟨1, ![20]⟩
abbrev S_ : Shape := ⟨0, ![]⟩
abbrev S512x1024 : Shape := ⟨2, ![512, 1024]⟩
abbrev S1 : Shape := ⟨1, ![1]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩

abbrev nBuf : Space → Nat
  | .hbm => 2
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S1984x1024, .bf16⟩
  | .local _ .vmem, ⟨3, _⟩ => ⟨S1984x1024, .bf16⟩
  | .local _ .vmem, ⟨4, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_42 : BitVec 32 := 0#32
  let c8_i32_16 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v35 : BitVec 32 := Scalar.muli c8_i32_16 v19
  let c2_i32 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let v36 : BitVec 32 := Scalar.muli c2_i32 v33
  let v37 : BitVec 32 := Scalar.addi v35 v36
  let c1_i32_15 : BitVec 32 := 1#32
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let v34 : BitVec 32 := Scalar.subi c1_i32_15 v32
  let c1_i32_17 : BitVec 32 := 1#32
  let v38 : BitVec 32 := Scalar.andi v33 c1_i32_17
  let v39 : BitVec 32 := Scalar.xori v34 v38
  let v40 : BitVec 32 := Scalar.addi v37 v39
  let c1_i32_41 : BitVec 32 := 1#32
  let v76 : BitVec 32 := Scalar.muli v40 c1_i32_41
  let v77 : BitVec 32 := Scalar.addi c0_i32_42 v76
  v77.toNat
def k0_dev2 (d0 : Dev nD) : Nat :=
  let c0_i32_45 : BitVec 32 := 0#32
  let c8_i32_19 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v42 : BitVec 32 := Scalar.muli c8_i32_19 v19
  let c2_i32_20 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_18 : BitVec 32 := 1#32
  let v41 : BitVec 32 := Scalar.xori v33 c1_i32_18
  let v43 : BitVec 32 := Scalar.muli c2_i32_20 v41
  let v44 : BitVec 32 := Scalar.addi v42 v43
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_21 : BitVec 32 := 1#32
  let v45 : BitVec 32 := Scalar.andi v41 c1_i32_21
  let v46 : BitVec 32 := Scalar.xori v32 v45
  let v47 : BitVec 32 := Scalar.addi v44 v46
  let c1_i32_44 : BitVec 32 := 1#32
  let v78 : BitVec 32 := Scalar.muli v47 c1_i32_44
  let v79 : BitVec 32 := Scalar.addi c0_i32_45 v78
  v79.toNat
def k0_dev3 (d0 : Dev nD) : Nat :=
  let c0_i32_48 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_29 : BitVec 32 := 1#32
  let v58 : BitVec 32 := Scalar.xori v19 c1_i32_29
  let v59 : BitVec 32 := Scalar.muli c8_i32_30 v58
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let v60 : BitVec 32 := Scalar.muli c2_i32_31 v33
  let v61 : BitVec 32 := Scalar.addi v59 v60
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_32 : BitVec 32 := 1#32
  let v62 : BitVec 32 := Scalar.andi v33 c1_i32_32
  let v63 : BitVec 32 := Scalar.xori v32 v62
  let v64 : BitVec 32 := Scalar.addi v61 v63
  let c1_i32_47 : BitVec 32 := 1#32
  let v80 : BitVec 32 := Scalar.muli v64 c1_i32_47
  let v81 : BitVec 32 := Scalar.addi c0_i32_48 v80
  v81.toNat
def k0_dev4 (d0 : Dev nD) : Nat :=
  let c0_i32_51 : BitVec 32 := 0#32
  let c8_i32_35 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_34 : BitVec 32 := 2#32
  let v66 : BitVec 32 := Scalar.xori v19 c2_i32_34
  let v67 : BitVec 32 := Scalar.muli c8_i32_35 v66
  let c2_i32_36 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let v68 : BitVec 32 := Scalar.muli c2_i32_36 v33
  let v69 : BitVec 32 := Scalar.addi v67 v68
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_37 : BitVec 32 := 1#32
  let v70 : BitVec 32 := Scalar.andi v33 c1_i32_37
  let v71 : BitVec 32 := Scalar.xori v32 v70
  let v72 : BitVec 32 := Scalar.addi v69 v71
  let c1_i32_50 : BitVec 32 := 1#32
  let v82 : BitVec 32 := Scalar.muli v72 c1_i32_50
  let v83 : BitVec 32 := Scalar.addi c0_i32_51 v82
  v83.toNat
def k0_dev5 (d0 : Dev nD) : Nat :=
  let c0_i32_54 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v50 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c2_i32_23 : BitVec 32 := 2#32
  let v49 : BitVec 32 := Scalar.xori v33 c2_i32_23
  let v51 : BitVec 32 := Scalar.muli c2_i32_25 v49
  let v52 : BitVec 32 := Scalar.addi v50 v51
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_26 : BitVec 32 := 1#32
  let v53 : BitVec 32 := Scalar.andi v49 c1_i32_26
  let v54 : BitVec 32 := Scalar.xori v32 v53
  let v55 : BitVec 32 := Scalar.addi v52 v54
  let c1_i32_53 : BitVec 32 := 1#32
  let v84 : BitVec 32 := Scalar.muli v55 c1_i32_53
  let v85 : BitVec 32 := Scalar.addi c0_i32_54 v84
  v85.toNat
def k0_mult1 (d0 : Dev nD) : BitVec 32 :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_58 : BitVec 32 := 0#32
  let v89 : BitVec 1 := Scalar.cmpi .eq v32 c0_i32_58
  let c512_i32 : BitVec 32 := 512#32
  let c0_i32_59 : BitVec 32 := 0#32
  let v90 : BitVec 32 := Scalar.select v89 c512_i32 c0_i32_59
  let v91 : BitVec 32 := Scalar.addi c0_i32_60 v90
  v91
def k0_off1 (d0 : Dev nD) (c512_i32 : BitVec 32) (c0_i32_59 : BitVec 32) : Fin 2 → Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_58 : BitVec 32 := 0#32
  let v89 : BitVec 1 := Scalar.cmpi .eq v32 c0_i32_58
  let v90 : BitVec 32 := Scalar.select v89 c512_i32 c0_i32_59
  let v91 : BitVec 32 := Scalar.addi c0_i32_60 v90
  let v95 : BitVec 32 := v91
  let v96 : Index := Scalar.indexCast v95
  let c0_65 : Index := 0#32
  ![v96.toNat, 0]
def k0_off1_at (r : Fin 2) : BitVec 32 × BitVec 32 :=
  if r.val < 1 then
    (512#32, 0#32)
  else
    (0#32, 512#32)
def k0_dev6 (d0 : Dev nD) : Nat :=
  let c0_i32_71 : BitVec 32 := 0#32
  let c8_i32_16 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v35 : BitVec 32 := Scalar.muli c8_i32_16 v19
  let c2_i32 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let v36 : BitVec 32 := Scalar.muli c2_i32 v33
  let v37 : BitVec 32 := Scalar.addi v35 v36
  let c1_i32_15 : BitVec 32 := 1#32
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let v34 : BitVec 32 := Scalar.subi c1_i32_15 v32
  let c1_i32_17 : BitVec 32 := 1#32
  let v38 : BitVec 32 := Scalar.andi v33 c1_i32_17
  let v39 : BitVec 32 := Scalar.xori v34 v38
  let v40 : BitVec 32 := Scalar.addi v37 v39
  let c1_i32_70 : BitVec 32 := 1#32
  let v103 : BitVec 32 := Scalar.muli v40 c1_i32_70
  let v104 : BitVec 32 := Scalar.addi c0_i32_71 v103
  v104.toNat
def k0_mult2 (d0 : Dev nD) : BitVec 32 :=
  let c1024_i32 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_76 : BitVec 32 := 0#32
  let v111 : BitVec 1 := Scalar.cmpi .eq v48 c0_i32_76
  let c512_i32_77 : BitVec 32 := 512#32
  let c0_i32_78 : BitVec 32 := 0#32
  let v112 : BitVec 32 := Scalar.select v111 c512_i32_77 c0_i32_78
  let v113 : BitVec 32 := Scalar.addi c1024_i32 v112
  v113
def k0_off2 (d0 : Dev nD) (c512_i32_77 : BitVec 32) (c0_i32_78 : BitVec 32) : Fin 2 → Nat :=
  let c1024_i32 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_76 : BitVec 32 := 0#32
  let v111 : BitVec 1 := Scalar.cmpi .eq v48 c0_i32_76
  let v112 : BitVec 32 := Scalar.select v111 c512_i32_77 c0_i32_78
  let v113 : BitVec 32 := Scalar.addi c1024_i32 v112
  let v117 : BitVec 32 := v113
  let v118 : Index := Scalar.indexCast v117
  let c0_83 : Index := 0#32
  ![v118.toNat, 0]
def k0_off2_at (r : Fin 2) : BitVec 32 × BitVec 32 :=
  if r.val < 1 then
    (512#32, 0#32)
  else
    (0#32, 512#32)
def k0_dev7 (d0 : Dev nD) : Nat :=
  let c0_i32_87 : BitVec 32 := 0#32
  let c8_i32_19 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v42 : BitVec 32 := Scalar.muli c8_i32_19 v19
  let c2_i32_20 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_18 : BitVec 32 := 1#32
  let v41 : BitVec 32 := Scalar.xori v33 c1_i32_18
  let v43 : BitVec 32 := Scalar.muli c2_i32_20 v41
  let v44 : BitVec 32 := Scalar.addi v42 v43
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_21 : BitVec 32 := 1#32
  let v45 : BitVec 32 := Scalar.andi v41 c1_i32_21
  let v46 : BitVec 32 := Scalar.xori v32 v45
  let v47 : BitVec 32 := Scalar.addi v44 v46
  let c1_i32_86 : BitVec 32 := 1#32
  let v125 : BitVec 32 := Scalar.muli v47 c1_i32_86
  let v126 : BitVec 32 := Scalar.addi c0_i32_87 v125
  v126.toNat
def k0_mult3 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  v94
def k0_mult4 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  v94
def k0_mult5 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  v116
def k0_mult6 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  v116
def k0_mult7 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_129 : BitVec 32 := 0#32
  let v173 : BitVec 1 := Scalar.cmpi .eq v48 c0_i32_129
  let c256_i32 : BitVec 32 := 256#32
  let c0_i32_130 : BitVec 32 := 0#32
  let v174 : BitVec 32 := Scalar.select v173 c256_i32 c0_i32_130
  let v175 : BitVec 32 := Scalar.addi v94 v174
  v175
def k0_off3 (d0 : Dev nD) (c256_i32 : BitVec 32) (c0_i32_130 : BitVec 32) : Fin 2 → Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_129 : BitVec 32 := 0#32
  let v173 : BitVec 1 := Scalar.cmpi .eq v48 c0_i32_129
  let v174 : BitVec 32 := Scalar.select v173 c256_i32 c0_i32_130
  let v175 : BitVec 32 := Scalar.addi v94 v174
  let v179 : BitVec 32 := v175
  let v180 : Index := Scalar.indexCast v179
  let c0_134 : Index := 0#32
  ![v180.toNat, 0]
def k0_off3_at (r : Fin 2) : BitVec 32 × BitVec 32 :=
  if r.val < 1 then
    (256#32, 0#32)
  else
    (0#32, 256#32)
def k0_dev8 (d0 : Dev nD) : Nat :=
  let c0_i32_139 : BitVec 32 := 0#32
  let c8_i32_19 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v42 : BitVec 32 := Scalar.muli c8_i32_19 v19
  let c2_i32_20 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_18 : BitVec 32 := 1#32
  let v41 : BitVec 32 := Scalar.xori v33 c1_i32_18
  let v43 : BitVec 32 := Scalar.muli c2_i32_20 v41
  let v44 : BitVec 32 := Scalar.addi v42 v43
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_21 : BitVec 32 := 1#32
  let v45 : BitVec 32 := Scalar.andi v41 c1_i32_21
  let v46 : BitVec 32 := Scalar.xori v32 v45
  let v47 : BitVec 32 := Scalar.addi v44 v46
  let c1_i32_138 : BitVec 32 := 1#32
  let v187 : BitVec 32 := Scalar.muli v47 c1_i32_138
  let v188 : BitVec 32 := Scalar.addi c0_i32_139 v187
  v188.toNat
def k0_mult8 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_144 : BitVec 32 := 0#32
  let v195 : BitVec 1 := Scalar.cmpi .eq v65 c0_i32_144
  let c256_i32_145 : BitVec 32 := 256#32
  let c0_i32_146 : BitVec 32 := 0#32
  let v196 : BitVec 32 := Scalar.select v195 c256_i32_145 c0_i32_146
  let v197 : BitVec 32 := Scalar.addi v116 v196
  v197
def k0_off4 (d0 : Dev nD) (c256_i32_145 : BitVec 32) (c0_i32_146 : BitVec 32) : Fin 2 → Nat :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_144 : BitVec 32 := 0#32
  let v195 : BitVec 1 := Scalar.cmpi .eq v65 c0_i32_144
  let v196 : BitVec 32 := Scalar.select v195 c256_i32_145 c0_i32_146
  let v197 : BitVec 32 := Scalar.addi v116 v196
  let v201 : BitVec 32 := v197
  let v202 : Index := Scalar.indexCast v201
  let c0_150 : Index := 0#32
  ![v202.toNat, 0]
def k0_off4_at (r : Fin 2) : BitVec 32 × BitVec 32 :=
  if r.val < 1 then
    (256#32, 0#32)
  else
    (0#32, 256#32)
def k0_dev9 (d0 : Dev nD) : Nat :=
  let c0_i32_154 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_29 : BitVec 32 := 1#32
  let v58 : BitVec 32 := Scalar.xori v19 c1_i32_29
  let v59 : BitVec 32 := Scalar.muli c8_i32_30 v58
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let v60 : BitVec 32 := Scalar.muli c2_i32_31 v33
  let v61 : BitVec 32 := Scalar.addi v59 v60
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_32 : BitVec 32 := 1#32
  let v62 : BitVec 32 := Scalar.andi v33 c1_i32_32
  let v63 : BitVec 32 := Scalar.xori v32 v62
  let v64 : BitVec 32 := Scalar.addi v61 v63
  let c1_i32_153 : BitVec 32 := 1#32
  let v209 : BitVec 32 := Scalar.muli v64 c1_i32_153
  let v210 : BitVec 32 := Scalar.addi c0_i32_154 v209
  v210.toNat
def k0_mult9 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  v178
def k0_mult10 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  v178
def k0_mult11 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  v200
def k0_mult12 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  v200
def k0_mult13 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_196 : BitVec 32 := 0#32
  let v257 : BitVec 1 := Scalar.cmpi .eq v65 c0_i32_196
  let c128_i32 : BitVec 32 := 128#32
  let c0_i32_197 : BitVec 32 := 0#32
  let v258 : BitVec 32 := Scalar.select v257 c128_i32 c0_i32_197
  let v259 : BitVec 32 := Scalar.addi v178 v258
  v259
def k0_off5 (d0 : Dev nD) (c128_i32 : BitVec 32) (c0_i32_197 : BitVec 32) : Fin 2 → Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_196 : BitVec 32 := 0#32
  let v257 : BitVec 1 := Scalar.cmpi .eq v65 c0_i32_196
  let v258 : BitVec 32 := Scalar.select v257 c128_i32 c0_i32_197
  let v259 : BitVec 32 := Scalar.addi v178 v258
  let v263 : BitVec 32 := v259
  let v264 : Index := Scalar.indexCast v263
  let c0_201 : Index := 0#32
  ![v264.toNat, 0]
def k0_off5_at (r : Fin 2) : BitVec 32 × BitVec 32 :=
  if r.val < 1 then
    (128#32, 0#32)
  else
    (0#32, 128#32)
def k0_dev10 (d0 : Dev nD) : Nat :=
  let c0_i32_206 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_29 : BitVec 32 := 1#32
  let v58 : BitVec 32 := Scalar.xori v19 c1_i32_29
  let v59 : BitVec 32 := Scalar.muli c8_i32_30 v58
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let v60 : BitVec 32 := Scalar.muli c2_i32_31 v33
  let v61 : BitVec 32 := Scalar.addi v59 v60
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_32 : BitVec 32 := 1#32
  let v62 : BitVec 32 := Scalar.andi v33 c1_i32_32
  let v63 : BitVec 32 := Scalar.xori v32 v62
  let v64 : BitVec 32 := Scalar.addi v61 v63
  let c1_i32_205 : BitVec 32 := 1#32
  let v271 : BitVec 32 := Scalar.muli v64 c1_i32_205
  let v272 : BitVec 32 := Scalar.addi c0_i32_206 v271
  v272.toNat
def k0_mult14 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_210 : BitVec 32 := 0#32
  let v279 : BitVec 1 := Scalar.cmpi .eq v32 c0_i32_210
  let c128_i32_211 : BitVec 32 := 128#32
  let c0_i32_212 : BitVec 32 := 0#32
  let v280 : BitVec 32 := Scalar.select v279 c128_i32_211 c0_i32_212
  let v281 : BitVec 32 := Scalar.addi v200 v280
  v281
def k0_off6 (d0 : Dev nD) (c128_i32_211 : BitVec 32) (c0_i32_212 : BitVec 32) : Fin 2 → Nat :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_210 : BitVec 32 := 0#32
  let v279 : BitVec 1 := Scalar.cmpi .eq v32 c0_i32_210
  let v280 : BitVec 32 := Scalar.select v279 c128_i32_211 c0_i32_212
  let v281 : BitVec 32 := Scalar.addi v200 v280
  let v285 : BitVec 32 := v281
  let v286 : Index := Scalar.indexCast v285
  let c0_216 : Index := 0#32
  ![v286.toNat, 0]
def k0_off6_at (r : Fin 2) : BitVec 32 × BitVec 32 :=
  if r.val < 1 then
    (128#32, 0#32)
  else
    (0#32, 128#32)
def k0_dev11 (d0 : Dev nD) : Nat :=
  let c0_i32_220 : BitVec 32 := 0#32
  let c8_i32_16 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v35 : BitVec 32 := Scalar.muli c8_i32_16 v19
  let c2_i32 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let v36 : BitVec 32 := Scalar.muli c2_i32 v33
  let v37 : BitVec 32 := Scalar.addi v35 v36
  let c1_i32_15 : BitVec 32 := 1#32
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let v34 : BitVec 32 := Scalar.subi c1_i32_15 v32
  let c1_i32_17 : BitVec 32 := 1#32
  let v38 : BitVec 32 := Scalar.andi v33 c1_i32_17
  let v39 : BitVec 32 := Scalar.xori v34 v38
  let v40 : BitVec 32 := Scalar.addi v37 v39
  let c1_i32_219 : BitVec 32 := 1#32
  let v293 : BitVec 32 := Scalar.muli v40 c1_i32_219
  let v294 : BitVec 32 := Scalar.addi c0_i32_220 v293
  v294.toNat
def k0_mult15 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  v262
def k0_mult16 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  v262
def k0_mult17 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  v284
def k0_mult18 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  v284
def k0_mult19 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_262 : BitVec 32 := 0#32
  let v341 : BitVec 1 := Scalar.cmpi .eq v74 c0_i32_262
  let c64_i32 : BitVec 32 := 64#32
  let c0_i32_263 : BitVec 32 := 0#32
  let v342 : BitVec 32 := Scalar.select v341 c64_i32 c0_i32_263
  let v343 : BitVec 32 := Scalar.addi v262 v342
  v343
def k0_off7 (d0 : Dev nD) (c64_i32 : BitVec 32) (c0_i32_263 : BitVec 32) : Fin 2 → Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_262 : BitVec 32 := 0#32
  let v341 : BitVec 1 := Scalar.cmpi .eq v74 c0_i32_262
  let v342 : BitVec 32 := Scalar.select v341 c64_i32 c0_i32_263
  let v343 : BitVec 32 := Scalar.addi v262 v342
  let v347 : BitVec 32 := v343
  let v348 : Index := Scalar.indexCast v347
  let c0_267 : Index := 0#32
  ![v348.toNat, 0]
def k0_off7_at (r : Fin 2) : BitVec 32 × BitVec 32 :=
  if r.val < 1 then
    (64#32, 0#32)
  else
    (0#32, 64#32)
def k0_dev12 (d0 : Dev nD) : Nat :=
  let c0_i32_271 : BitVec 32 := 0#32
  let c8_i32_35 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_34 : BitVec 32 := 2#32
  let v66 : BitVec 32 := Scalar.xori v19 c2_i32_34
  let v67 : BitVec 32 := Scalar.muli c8_i32_35 v66
  let c2_i32_36 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let v68 : BitVec 32 := Scalar.muli c2_i32_36 v33
  let v69 : BitVec 32 := Scalar.addi v67 v68
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_37 : BitVec 32 := 1#32
  let v70 : BitVec 32 := Scalar.andi v33 c1_i32_37
  let v71 : BitVec 32 := Scalar.xori v32 v70
  let v72 : BitVec 32 := Scalar.addi v69 v71
  let c1_i32_270 : BitVec 32 := 1#32
  let v355 : BitVec 32 := Scalar.muli v72 c1_i32_270
  let v356 : BitVec 32 := Scalar.addi c0_i32_271 v355
  v356.toNat
def k0_mult20 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_275 : BitVec 32 := 0#32
  let v363 : BitVec 1 := Scalar.cmpi .eq v57 c0_i32_275
  let c64_i32_276 : BitVec 32 := 64#32
  let c0_i32_277 : BitVec 32 := 0#32
  let v364 : BitVec 32 := Scalar.select v363 c64_i32_276 c0_i32_277
  let v365 : BitVec 32 := Scalar.addi v284 v364
  v365
def k0_off8 (d0 : Dev nD) (c64_i32_276 : BitVec 32) (c0_i32_277 : BitVec 32) : Fin 2 → Nat :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_275 : BitVec 32 := 0#32
  let v363 : BitVec 1 := Scalar.cmpi .eq v57 c0_i32_275
  let v364 : BitVec 32 := Scalar.select v363 c64_i32_276 c0_i32_277
  let v365 : BitVec 32 := Scalar.addi v284 v364
  let v369 : BitVec 32 := v365
  let v370 : Index := Scalar.indexCast v369
  let c0_281 : Index := 0#32
  ![v370.toNat, 0]
def k0_off8_at (r : Fin 2) : BitVec 32 × BitVec 32 :=
  if r.val < 1 then
    (64#32, 0#32)
  else
    (0#32, 64#32)
def k0_dev13 (d0 : Dev nD) : Nat :=
  let c0_i32_285 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v50 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c2_i32_23 : BitVec 32 := 2#32
  let v49 : BitVec 32 := Scalar.xori v33 c2_i32_23
  let v51 : BitVec 32 := Scalar.muli c2_i32_25 v49
  let v52 : BitVec 32 := Scalar.addi v50 v51
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_26 : BitVec 32 := 1#32
  let v53 : BitVec 32 := Scalar.andi v49 c1_i32_26
  let v54 : BitVec 32 := Scalar.xori v32 v53
  let v55 : BitVec 32 := Scalar.addi v52 v54
  let c1_i32_284 : BitVec 32 := 1#32
  let v377 : BitVec 32 := Scalar.muli v55 c1_i32_284
  let v378 : BitVec 32 := Scalar.addi c0_i32_285 v377
  v378.toNat
def k0_mult21 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  v346
def k0_mult22 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  v346
def k0_mult23 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  v368
def k0_mult24 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  v368
def k0_mult25 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_327 : BitVec 32 := 0#32
  let v425 : BitVec 1 := Scalar.cmpi .eq v57 c0_i32_327
  let c32_i32_328 : BitVec 32 := 32#32
  let c0_i32_329 : BitVec 32 := 0#32
  let v426 : BitVec 32 := Scalar.select v425 c32_i32_328 c0_i32_329
  let v427 : BitVec 32 := Scalar.addi v346 v426
  v427
def k0_off9 (d0 : Dev nD) (c32_i32_328 : BitVec 32) (c0_i32_329 : BitVec 32) : Fin 2 → Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_327 : BitVec 32 := 0#32
  let v425 : BitVec 1 := Scalar.cmpi .eq v57 c0_i32_327
  let v426 : BitVec 32 := Scalar.select v425 c32_i32_328 c0_i32_329
  let v427 : BitVec 32 := Scalar.addi v346 v426
  let v431 : BitVec 32 := v427
  let v432 : Index := Scalar.indexCast v431
  let c0_333 : Index := 0#32
  ![v432.toNat, 0]
def k0_off9_at (r : Fin 2) : BitVec 32 × BitVec 32 :=
  if r.val < 1 then
    (32#32, 0#32)
  else
    (0#32, 32#32)
def k0_dev14 (d0 : Dev nD) : Nat :=
  let c0_i32_337 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v50 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c2_i32_23 : BitVec 32 := 2#32
  let v49 : BitVec 32 := Scalar.xori v33 c2_i32_23
  let v51 : BitVec 32 := Scalar.muli c2_i32_25 v49
  let v52 : BitVec 32 := Scalar.addi v50 v51
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_26 : BitVec 32 := 1#32
  let v53 : BitVec 32 := Scalar.andi v49 c1_i32_26
  let v54 : BitVec 32 := Scalar.xori v32 v53
  let v55 : BitVec 32 := Scalar.addi v52 v54
  let c1_i32_336 : BitVec 32 := 1#32
  let v439 : BitVec 32 := Scalar.muli v55 c1_i32_336
  let v440 : BitVec 32 := Scalar.addi c0_i32_337 v439
  v440.toNat
def k0_mult26 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_341 : BitVec 32 := 0#32
  let v447 : BitVec 1 := Scalar.cmpi .eq v74 c0_i32_341
  let c32_i32_342 : BitVec 32 := 32#32
  let c0_i32_343 : BitVec 32 := 0#32
  let v448 : BitVec 32 := Scalar.select v447 c32_i32_342 c0_i32_343
  let v449 : BitVec 32 := Scalar.addi v368 v448
  v449
def k0_off10 (d0 : Dev nD) (c32_i32_342 : BitVec 32) (c0_i32_343 : BitVec 32) : Fin 2 → Nat :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_341 : BitVec 32 := 0#32
  let v447 : BitVec 1 := Scalar.cmpi .eq v74 c0_i32_341
  let v448 : BitVec 32 := Scalar.select v447 c32_i32_342 c0_i32_343
  let v449 : BitVec 32 := Scalar.addi v368 v448
  let v453 : BitVec 32 := v449
  let v454 : Index := Scalar.indexCast v453
  let c0_347 : Index := 0#32
  ![v454.toNat, 0]
def k0_off10_at (r : Fin 2) : BitVec 32 × BitVec 32 :=
  if r.val < 1 then
    (32#32, 0#32)
  else
    (0#32, 32#32)
def k0_dev15 (d0 : Dev nD) : Nat :=
  let c0_i32_351 : BitVec 32 := 0#32
  let c8_i32_35 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_34 : BitVec 32 := 2#32
  let v66 : BitVec 32 := Scalar.xori v19 c2_i32_34
  let v67 : BitVec 32 := Scalar.muli c8_i32_35 v66
  let c2_i32_36 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let v68 : BitVec 32 := Scalar.muli c2_i32_36 v33
  let v69 : BitVec 32 := Scalar.addi v67 v68
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_37 : BitVec 32 := 1#32
  let v70 : BitVec 32 := Scalar.andi v33 c1_i32_37
  let v71 : BitVec 32 := Scalar.xori v32 v70
  let v72 : BitVec 32 := Scalar.addi v69 v71
  let c1_i32_350 : BitVec 32 := 1#32
  let v461 : BitVec 32 := Scalar.muli v72 c1_i32_350
  let v462 : BitVec 32 := Scalar.addi c0_i32_351 v461
  v462.toNat
def k0_mult27 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  v430
def k0_mult28 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  v430
def k0_mult29 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  v452
def k0_mult30 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  v452
def k0_mult31 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  v430
def k0_mult32 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  v430
def k0_mult33 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  v430
def k0_mult34 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  v452
def k0_mult35 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  v452
def k0_mult36 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  v452
def k0_mult37 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  v430
def k0_mult38 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  v430
def k0_off11 (d0 : Dev nD) : Fin 2 → Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let v552 : BitVec 32 := v430
  let c0_i32_403 : BitVec 32 := 0#32
  ![v552.toNat, 0]
def k0_dev16 (d0 : Dev nD) : Nat :=
  let c0_i32_402 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v50 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c2_i32_23 : BitVec 32 := 2#32
  let v49 : BitVec 32 := Scalar.xori v33 c2_i32_23
  let v51 : BitVec 32 := Scalar.muli c2_i32_25 v49
  let v52 : BitVec 32 := Scalar.addi v50 v51
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_26 : BitVec 32 := 1#32
  let v53 : BitVec 32 := Scalar.andi v49 c1_i32_26
  let v54 : BitVec 32 := Scalar.xori v32 v53
  let v55 : BitVec 32 := Scalar.addi v52 v54
  let c1_i32_401 : BitVec 32 := 1#32
  let v553 : BitVec 32 := Scalar.muli v55 c1_i32_401
  let v554 : BitVec 32 := Scalar.addi c0_i32_402 v553
  v554.toNat
def k0_mult39 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  v452
def k0_mult40 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  v452
def k0_off12 (d0 : Dev nD) : Fin 2 → Nat :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let v562 : BitVec 32 := v452
  let c0_i32_408 : BitVec 32 := 0#32
  ![v562.toNat, 0]
def k0_dev17 (d0 : Dev nD) : Nat :=
  let c0_i32_407 : BitVec 32 := 0#32
  let c8_i32_35 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_34 : BitVec 32 := 2#32
  let v66 : BitVec 32 := Scalar.xori v19 c2_i32_34
  let v67 : BitVec 32 := Scalar.muli c8_i32_35 v66
  let c2_i32_36 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let v68 : BitVec 32 := Scalar.muli c2_i32_36 v33
  let v69 : BitVec 32 := Scalar.addi v67 v68
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_37 : BitVec 32 := 1#32
  let v70 : BitVec 32 := Scalar.andi v33 c1_i32_37
  let v71 : BitVec 32 := Scalar.xori v32 v70
  let v72 : BitVec 32 := Scalar.addi v69 v71
  let c1_i32_406 : BitVec 32 := 1#32
  let v563 : BitVec 32 := Scalar.muli v72 c1_i32_406
  let v564 : BitVec 32 := Scalar.addi c0_i32_407 v563
  v564.toNat
def k0_mult41 (d0 : Dev nD) : BitVec 32 :=
  let c2_i32_422 : BitVec 32 := 2#32
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let v583 : BitVec 32 := Scalar.muli c2_i32_422 v582
  let c32_i32_423 : BitVec 32 := 32#32
  let v584 : BitVec 32 := Scalar.addi v583 c32_i32_423
  let v585 : BitVec 32 := Scalar.subi v584 v430
  v585
def k0_off13 (d0 : Dev nD) : Fin 2 → Nat :=
  let c2_i32_422 : BitVec 32 := 2#32
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let v583 : BitVec 32 := Scalar.muli c2_i32_422 v582
  let c32_i32_423 : BitVec 32 := 32#32
  let v584 : BitVec 32 := Scalar.addi v583 c32_i32_423
  let v585 : BitVec 32 := Scalar.subi v584 v430
  let v586 : BitVec 32 := v585
  let v587 : Index := Scalar.indexCast v586
  let c0_424 : Index := 0#32
  ![v587.toNat, 0]
def k0_mult42 (d0 : Dev nD) : BitVec 32 :=
  let c2_i32_422 : BitVec 32 := 2#32
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let v583 : BitVec 32 := Scalar.muli c2_i32_422 v582
  let c32_i32_423 : BitVec 32 := 32#32
  let v584 : BitVec 32 := Scalar.addi v583 c32_i32_423
  let v585 : BitVec 32 := Scalar.subi v584 v430
  v585
def k0_mult43 (d0 : Dev nD) : BitVec 32 :=
  let c2_i32_438 : BitVec 32 := 2#32
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let v605 : BitVec 32 := Scalar.muli c2_i32_438 v604
  let c32_i32_439 : BitVec 32 := 32#32
  let v606 : BitVec 32 := Scalar.addi v605 c32_i32_439
  let v607 : BitVec 32 := Scalar.subi v606 v452
  v607
def k0_off14 (d0 : Dev nD) : Fin 2 → Nat :=
  let c2_i32_438 : BitVec 32 := 2#32
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let v605 : BitVec 32 := Scalar.muli c2_i32_438 v604
  let c32_i32_439 : BitVec 32 := 32#32
  let v606 : BitVec 32 := Scalar.addi v605 c32_i32_439
  let v607 : BitVec 32 := Scalar.subi v606 v452
  let v608 : BitVec 32 := v607
  let v609 : Index := Scalar.indexCast v608
  let c0_440 : Index := 0#32
  ![v609.toNat, 0]
def k0_mult44 (d0 : Dev nD) : BitVec 32 :=
  let c2_i32_438 : BitVec 32 := 2#32
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let v605 : BitVec 32 := Scalar.muli c2_i32_438 v604
  let c32_i32_439 : BitVec 32 := 32#32
  let v606 : BitVec 32 := Scalar.addi v605 c32_i32_439
  let v607 : BitVec 32 := Scalar.subi v606 v452
  v607
def k0_mult45 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  v582
def k0_mult46 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  v582
def k0_off15 (d0 : Dev nD) : Fin 2 → Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let v616 : BitVec 32 := v582
  let c0_i32_446 : BitVec 32 := 0#32
  ![v616.toNat, 0]
def k0_dev18 (d0 : Dev nD) : Nat :=
  let c0_i32_445 : BitVec 32 := 0#32
  let c8_i32_35 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_34 : BitVec 32 := 2#32
  let v66 : BitVec 32 := Scalar.xori v19 c2_i32_34
  let v67 : BitVec 32 := Scalar.muli c8_i32_35 v66
  let c2_i32_36 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let v68 : BitVec 32 := Scalar.muli c2_i32_36 v33
  let v69 : BitVec 32 := Scalar.addi v67 v68
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_37 : BitVec 32 := 1#32
  let v70 : BitVec 32 := Scalar.andi v33 c1_i32_37
  let v71 : BitVec 32 := Scalar.xori v32 v70
  let v72 : BitVec 32 := Scalar.addi v69 v71
  let c1_i32_444 : BitVec 32 := 1#32
  let v617 : BitVec 32 := Scalar.muli v72 c1_i32_444
  let v618 : BitVec 32 := Scalar.addi c0_i32_445 v617
  v618.toNat
def k0_mult47 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  v604
def k0_mult48 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  v604
def k0_off16 (d0 : Dev nD) : Fin 2 → Nat :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let v626 : BitVec 32 := v604
  let c0_i32_451 : BitVec 32 := 0#32
  ![v626.toNat, 0]
def k0_dev19 (d0 : Dev nD) : Nat :=
  let c0_i32_450 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v50 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c2_i32_23 : BitVec 32 := 2#32
  let v49 : BitVec 32 := Scalar.xori v33 c2_i32_23
  let v51 : BitVec 32 := Scalar.muli c2_i32_25 v49
  let v52 : BitVec 32 := Scalar.addi v50 v51
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_26 : BitVec 32 := 1#32
  let v53 : BitVec 32 := Scalar.andi v49 c1_i32_26
  let v54 : BitVec 32 := Scalar.xori v32 v53
  let v55 : BitVec 32 := Scalar.addi v52 v54
  let c1_i32_449 : BitVec 32 := 1#32
  let v627 : BitVec 32 := Scalar.muli v55 c1_i32_449
  let v628 : BitVec 32 := Scalar.addi c0_i32_450 v627
  v628.toNat
def k0_mult49 (d0 : Dev nD) : BitVec 32 :=
  let c2_i32_465 : BitVec 32 := 2#32
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let v647 : BitVec 32 := Scalar.muli c2_i32_465 v646
  let c64_i32_466 : BitVec 32 := 64#32
  let v648 : BitVec 32 := Scalar.addi v647 c64_i32_466
  let v649 : BitVec 32 := Scalar.subi v648 v582
  v649
def k0_off17 (d0 : Dev nD) : Fin 2 → Nat :=
  let c2_i32_465 : BitVec 32 := 2#32
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let v647 : BitVec 32 := Scalar.muli c2_i32_465 v646
  let c64_i32_466 : BitVec 32 := 64#32
  let v648 : BitVec 32 := Scalar.addi v647 c64_i32_466
  let v649 : BitVec 32 := Scalar.subi v648 v582
  let v650 : BitVec 32 := v649
  let v651 : Index := Scalar.indexCast v650
  let c0_467 : Index := 0#32
  ![v651.toNat, 0]
def k0_mult50 (d0 : Dev nD) : BitVec 32 :=
  let c2_i32_465 : BitVec 32 := 2#32
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let v647 : BitVec 32 := Scalar.muli c2_i32_465 v646
  let c64_i32_466 : BitVec 32 := 64#32
  let v648 : BitVec 32 := Scalar.addi v647 c64_i32_466
  let v649 : BitVec 32 := Scalar.subi v648 v582
  v649
def k0_mult51 (d0 : Dev nD) : BitVec 32 :=
  let c2_i32_481 : BitVec 32 := 2#32
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let v669 : BitVec 32 := Scalar.muli c2_i32_481 v668
  let c64_i32_482 : BitVec 32 := 64#32
  let v670 : BitVec 32 := Scalar.addi v669 c64_i32_482
  let v671 : BitVec 32 := Scalar.subi v670 v604
  v671
def k0_off18 (d0 : Dev nD) : Fin 2 → Nat :=
  let c2_i32_481 : BitVec 32 := 2#32
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let v669 : BitVec 32 := Scalar.muli c2_i32_481 v668
  let c64_i32_482 : BitVec 32 := 64#32
  let v670 : BitVec 32 := Scalar.addi v669 c64_i32_482
  let v671 : BitVec 32 := Scalar.subi v670 v604
  let v672 : BitVec 32 := v671
  let v673 : Index := Scalar.indexCast v672
  let c0_483 : Index := 0#32
  ![v673.toNat, 0]
def k0_mult52 (d0 : Dev nD) : BitVec 32 :=
  let c2_i32_481 : BitVec 32 := 2#32
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let v669 : BitVec 32 := Scalar.muli c2_i32_481 v668
  let c64_i32_482 : BitVec 32 := 64#32
  let v670 : BitVec 32 := Scalar.addi v669 c64_i32_482
  let v671 : BitVec 32 := Scalar.subi v670 v604
  v671
def k0_mult53 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  v646
def k0_mult54 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  v646
def k0_off19 (d0 : Dev nD) : Fin 2 → Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let v680 : BitVec 32 := v646
  let c0_i32_488 : BitVec 32 := 0#32
  ![v680.toNat, 0]
def k0_dev20 (d0 : Dev nD) : Nat :=
  let c0_i32_487 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_29 : BitVec 32 := 1#32
  let v58 : BitVec 32 := Scalar.xori v19 c1_i32_29
  let v59 : BitVec 32 := Scalar.muli c8_i32_30 v58
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let v60 : BitVec 32 := Scalar.muli c2_i32_31 v33
  let v61 : BitVec 32 := Scalar.addi v59 v60
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_32 : BitVec 32 := 1#32
  let v62 : BitVec 32 := Scalar.andi v33 c1_i32_32
  let v63 : BitVec 32 := Scalar.xori v32 v62
  let v64 : BitVec 32 := Scalar.addi v61 v63
  let c1_i32_486 : BitVec 32 := 1#32
  let v681 : BitVec 32 := Scalar.muli v64 c1_i32_486
  let v682 : BitVec 32 := Scalar.addi c0_i32_487 v681
  v682.toNat
def k0_mult55 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  v668
def k0_mult56 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  v668
def k0_off20 (d0 : Dev nD) : Fin 2 → Nat :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let v690 : BitVec 32 := v668
  let c0_i32_493 : BitVec 32 := 0#32
  ![v690.toNat, 0]
def k0_dev21 (d0 : Dev nD) : Nat :=
  let c0_i32_492 : BitVec 32 := 0#32
  let c8_i32_16 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v35 : BitVec 32 := Scalar.muli c8_i32_16 v19
  let c2_i32 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let v36 : BitVec 32 := Scalar.muli c2_i32 v33
  let v37 : BitVec 32 := Scalar.addi v35 v36
  let c1_i32_15 : BitVec 32 := 1#32
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let v34 : BitVec 32 := Scalar.subi c1_i32_15 v32
  let c1_i32_17 : BitVec 32 := 1#32
  let v38 : BitVec 32 := Scalar.andi v33 c1_i32_17
  let v39 : BitVec 32 := Scalar.xori v34 v38
  let v40 : BitVec 32 := Scalar.addi v37 v39
  let c1_i32_491 : BitVec 32 := 1#32
  let v691 : BitVec 32 := Scalar.muli v40 c1_i32_491
  let v692 : BitVec 32 := Scalar.addi c0_i32_492 v691
  v692.toNat
def k0_mult57 (d0 : Dev nD) : BitVec 32 :=
  let c2_i32_507 : BitVec 32 := 2#32
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let c128_i32_506 : BitVec 32 := 128#32
  let v709 : BitVec 32 := Scalar.muli v65 c128_i32_506
  let v710 : BitVec 32 := Scalar.subi v646 v709
  let v711 : BitVec 32 := Scalar.muli c2_i32_507 v710
  let c128_i32_508 : BitVec 32 := 128#32
  let v712 : BitVec 32 := Scalar.addi v711 c128_i32_508
  let v713 : BitVec 32 := Scalar.subi v712 v646
  v713
def k0_off21 (d0 : Dev nD) : Fin 2 → Nat :=
  let c2_i32_507 : BitVec 32 := 2#32
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let c128_i32_506 : BitVec 32 := 128#32
  let v709 : BitVec 32 := Scalar.muli v65 c128_i32_506
  let v710 : BitVec 32 := Scalar.subi v646 v709
  let v711 : BitVec 32 := Scalar.muli c2_i32_507 v710
  let c128_i32_508 : BitVec 32 := 128#32
  let v712 : BitVec 32 := Scalar.addi v711 c128_i32_508
  let v713 : BitVec 32 := Scalar.subi v712 v646
  let v714 : BitVec 32 := v713
  let v715 : Index := Scalar.indexCast v714
  let c0_509 : Index := 0#32
  ![v715.toNat, 0]
def k0_mult58 (d0 : Dev nD) : BitVec 32 :=
  let c2_i32_507 : BitVec 32 := 2#32
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let c128_i32_506 : BitVec 32 := 128#32
  let v709 : BitVec 32 := Scalar.muli v65 c128_i32_506
  let v710 : BitVec 32 := Scalar.subi v646 v709
  let v711 : BitVec 32 := Scalar.muli c2_i32_507 v710
  let c128_i32_508 : BitVec 32 := 128#32
  let v712 : BitVec 32 := Scalar.addi v711 c128_i32_508
  let v713 : BitVec 32 := Scalar.subi v712 v646
  v713
def k0_mult59 (d0 : Dev nD) : BitVec 32 :=
  let c2_i32_523 : BitVec 32 := 2#32
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let c128_i32_522 : BitVec 32 := 128#32
  let v731 : BitVec 32 := Scalar.muli v32 c128_i32_522
  let v732 : BitVec 32 := Scalar.subi v668 v731
  let v733 : BitVec 32 := Scalar.muli c2_i32_523 v732
  let c128_i32_524 : BitVec 32 := 128#32
  let v734 : BitVec 32 := Scalar.addi v733 c128_i32_524
  let v735 : BitVec 32 := Scalar.subi v734 v668
  v735
def k0_off22 (d0 : Dev nD) : Fin 2 → Nat :=
  let c2_i32_523 : BitVec 32 := 2#32
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let c128_i32_522 : BitVec 32 := 128#32
  let v731 : BitVec 32 := Scalar.muli v32 c128_i32_522
  let v732 : BitVec 32 := Scalar.subi v668 v731
  let v733 : BitVec 32 := Scalar.muli c2_i32_523 v732
  let c128_i32_524 : BitVec 32 := 128#32
  let v734 : BitVec 32 := Scalar.addi v733 c128_i32_524
  let v735 : BitVec 32 := Scalar.subi v734 v668
  let v736 : BitVec 32 := v735
  let v737 : Index := Scalar.indexCast v736
  let c0_525 : Index := 0#32
  ![v737.toNat, 0]
def k0_mult60 (d0 : Dev nD) : BitVec 32 :=
  let c2_i32_523 : BitVec 32 := 2#32
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let c128_i32_522 : BitVec 32 := 128#32
  let v731 : BitVec 32 := Scalar.muli v32 c128_i32_522
  let v732 : BitVec 32 := Scalar.subi v668 v731
  let v733 : BitVec 32 := Scalar.muli c2_i32_523 v732
  let c128_i32_524 : BitVec 32 := 128#32
  let v734 : BitVec 32 := Scalar.addi v733 c128_i32_524
  let v735 : BitVec 32 := Scalar.subi v734 v668
  v735
def k0_mult61 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let c128_i32_506 : BitVec 32 := 128#32
  let v709 : BitVec 32 := Scalar.muli v65 c128_i32_506
  let v710 : BitVec 32 := Scalar.subi v646 v709
  v710
def k0_mult62 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let c128_i32_506 : BitVec 32 := 128#32
  let v709 : BitVec 32 := Scalar.muli v65 c128_i32_506
  let v710 : BitVec 32 := Scalar.subi v646 v709
  v710
def k0_off23 (d0 : Dev nD) : Fin 2 → Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let c128_i32_506 : BitVec 32 := 128#32
  let v709 : BitVec 32 := Scalar.muli v65 c128_i32_506
  let v710 : BitVec 32 := Scalar.subi v646 v709
  let v744 : BitVec 32 := v710
  let c0_i32_530 : BitVec 32 := 0#32
  ![v744.toNat, 0]
def k0_dev22 (d0 : Dev nD) : Nat :=
  let c0_i32_529 : BitVec 32 := 0#32
  let c8_i32_19 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v42 : BitVec 32 := Scalar.muli c8_i32_19 v19
  let c2_i32_20 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_18 : BitVec 32 := 1#32
  let v41 : BitVec 32 := Scalar.xori v33 c1_i32_18
  let v43 : BitVec 32 := Scalar.muli c2_i32_20 v41
  let v44 : BitVec 32 := Scalar.addi v42 v43
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_21 : BitVec 32 := 1#32
  let v45 : BitVec 32 := Scalar.andi v41 c1_i32_21
  let v46 : BitVec 32 := Scalar.xori v32 v45
  let v47 : BitVec 32 := Scalar.addi v44 v46
  let c1_i32_528 : BitVec 32 := 1#32
  let v745 : BitVec 32 := Scalar.muli v47 c1_i32_528
  let v746 : BitVec 32 := Scalar.addi c0_i32_529 v745
  v746.toNat
def k0_mult63 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let c128_i32_522 : BitVec 32 := 128#32
  let v731 : BitVec 32 := Scalar.muli v32 c128_i32_522
  let v732 : BitVec 32 := Scalar.subi v668 v731
  v732
def k0_mult64 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let c128_i32_522 : BitVec 32 := 128#32
  let v731 : BitVec 32 := Scalar.muli v32 c128_i32_522
  let v732 : BitVec 32 := Scalar.subi v668 v731
  v732
def k0_off24 (d0 : Dev nD) : Fin 2 → Nat :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let c128_i32_522 : BitVec 32 := 128#32
  let v731 : BitVec 32 := Scalar.muli v32 c128_i32_522
  let v732 : BitVec 32 := Scalar.subi v668 v731
  let v754 : BitVec 32 := v732
  let c0_i32_535 : BitVec 32 := 0#32
  ![v754.toNat, 0]
def k0_dev23 (d0 : Dev nD) : Nat :=
  let c0_i32_534 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_29 : BitVec 32 := 1#32
  let v58 : BitVec 32 := Scalar.xori v19 c1_i32_29
  let v59 : BitVec 32 := Scalar.muli c8_i32_30 v58
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let v60 : BitVec 32 := Scalar.muli c2_i32_31 v33
  let v61 : BitVec 32 := Scalar.addi v59 v60
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_32 : BitVec 32 := 1#32
  let v62 : BitVec 32 := Scalar.andi v33 c1_i32_32
  let v63 : BitVec 32 := Scalar.xori v32 v62
  let v64 : BitVec 32 := Scalar.addi v61 v63
  let c1_i32_533 : BitVec 32 := 1#32
  let v755 : BitVec 32 := Scalar.muli v64 c1_i32_533
  let v756 : BitVec 32 := Scalar.addi c0_i32_534 v755
  v756.toNat
def k0_mult65 (d0 : Dev nD) : BitVec 32 :=
  let c2_i32_549 : BitVec 32 := 2#32
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let c128_i32_506 : BitVec 32 := 128#32
  let v709 : BitVec 32 := Scalar.muli v65 c128_i32_506
  let v710 : BitVec 32 := Scalar.subi v646 v709
  let c256_i32_548 : BitVec 32 := 256#32
  let v773 : BitVec 32 := Scalar.muli v48 c256_i32_548
  let v774 : BitVec 32 := Scalar.subi v710 v773
  let v775 : BitVec 32 := Scalar.muli c2_i32_549 v774
  let c256_i32_550 : BitVec 32 := 256#32
  let v776 : BitVec 32 := Scalar.addi v775 c256_i32_550
  let v777 : BitVec 32 := Scalar.subi v776 v710
  v777
def k0_off25 (d0 : Dev nD) : Fin 2 → Nat :=
  let c2_i32_549 : BitVec 32 := 2#32
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let c128_i32_506 : BitVec 32 := 128#32
  let v709 : BitVec 32 := Scalar.muli v65 c128_i32_506
  let v710 : BitVec 32 := Scalar.subi v646 v709
  let c256_i32_548 : BitVec 32 := 256#32
  let v773 : BitVec 32 := Scalar.muli v48 c256_i32_548
  let v774 : BitVec 32 := Scalar.subi v710 v773
  let v775 : BitVec 32 := Scalar.muli c2_i32_549 v774
  let c256_i32_550 : BitVec 32 := 256#32
  let v776 : BitVec 32 := Scalar.addi v775 c256_i32_550
  let v777 : BitVec 32 := Scalar.subi v776 v710
  let v778 : BitVec 32 := v777
  let v779 : Index := Scalar.indexCast v778
  let c0_551 : Index := 0#32
  ![v779.toNat, 0]
def k0_mult66 (d0 : Dev nD) : BitVec 32 :=
  let c2_i32_549 : BitVec 32 := 2#32
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let c128_i32_506 : BitVec 32 := 128#32
  let v709 : BitVec 32 := Scalar.muli v65 c128_i32_506
  let v710 : BitVec 32 := Scalar.subi v646 v709
  let c256_i32_548 : BitVec 32 := 256#32
  let v773 : BitVec 32 := Scalar.muli v48 c256_i32_548
  let v774 : BitVec 32 := Scalar.subi v710 v773
  let v775 : BitVec 32 := Scalar.muli c2_i32_549 v774
  let c256_i32_550 : BitVec 32 := 256#32
  let v776 : BitVec 32 := Scalar.addi v775 c256_i32_550
  let v777 : BitVec 32 := Scalar.subi v776 v710
  v777
def k0_mult67 (d0 : Dev nD) : BitVec 32 :=
  let c2_i32_565 : BitVec 32 := 2#32
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let c128_i32_522 : BitVec 32 := 128#32
  let v731 : BitVec 32 := Scalar.muli v32 c128_i32_522
  let v732 : BitVec 32 := Scalar.subi v668 v731
  let c256_i32_564 : BitVec 32 := 256#32
  let v795 : BitVec 32 := Scalar.muli v65 c256_i32_564
  let v796 : BitVec 32 := Scalar.subi v732 v795
  let v797 : BitVec 32 := Scalar.muli c2_i32_565 v796
  let c256_i32_566 : BitVec 32 := 256#32
  let v798 : BitVec 32 := Scalar.addi v797 c256_i32_566
  let v799 : BitVec 32 := Scalar.subi v798 v732
  v799
def k0_off26 (d0 : Dev nD) : Fin 2 → Nat :=
  let c2_i32_565 : BitVec 32 := 2#32
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let c128_i32_522 : BitVec 32 := 128#32
  let v731 : BitVec 32 := Scalar.muli v32 c128_i32_522
  let v732 : BitVec 32 := Scalar.subi v668 v731
  let c256_i32_564 : BitVec 32 := 256#32
  let v795 : BitVec 32 := Scalar.muli v65 c256_i32_564
  let v796 : BitVec 32 := Scalar.subi v732 v795
  let v797 : BitVec 32 := Scalar.muli c2_i32_565 v796
  let c256_i32_566 : BitVec 32 := 256#32
  let v798 : BitVec 32 := Scalar.addi v797 c256_i32_566
  let v799 : BitVec 32 := Scalar.subi v798 v732
  let v800 : BitVec 32 := v799
  let v801 : Index := Scalar.indexCast v800
  let c0_567 : Index := 0#32
  ![v801.toNat, 0]
def k0_mult68 (d0 : Dev nD) : BitVec 32 :=
  let c2_i32_565 : BitVec 32 := 2#32
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let c128_i32_522 : BitVec 32 := 128#32
  let v731 : BitVec 32 := Scalar.muli v32 c128_i32_522
  let v732 : BitVec 32 := Scalar.subi v668 v731
  let c256_i32_564 : BitVec 32 := 256#32
  let v795 : BitVec 32 := Scalar.muli v65 c256_i32_564
  let v796 : BitVec 32 := Scalar.subi v732 v795
  let v797 : BitVec 32 := Scalar.muli c2_i32_565 v796
  let c256_i32_566 : BitVec 32 := 256#32
  let v798 : BitVec 32 := Scalar.addi v797 c256_i32_566
  let v799 : BitVec 32 := Scalar.subi v798 v732
  v799
def k0_mult69 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let c128_i32_506 : BitVec 32 := 128#32
  let v709 : BitVec 32 := Scalar.muli v65 c128_i32_506
  let v710 : BitVec 32 := Scalar.subi v646 v709
  let c256_i32_548 : BitVec 32 := 256#32
  let v773 : BitVec 32 := Scalar.muli v48 c256_i32_548
  let v774 : BitVec 32 := Scalar.subi v710 v773
  v774
def k0_mult70 (d0 : Dev nD) : BitVec 32 :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let c128_i32_506 : BitVec 32 := 128#32
  let v709 : BitVec 32 := Scalar.muli v65 c128_i32_506
  let v710 : BitVec 32 := Scalar.subi v646 v709
  let c256_i32_548 : BitVec 32 := 256#32
  let v773 : BitVec 32 := Scalar.muli v48 c256_i32_548
  let v774 : BitVec 32 := Scalar.subi v710 v773
  v774
def k0_off27 (d0 : Dev nD) : Fin 2 → Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let c128_i32_506 : BitVec 32 := 128#32
  let v709 : BitVec 32 := Scalar.muli v65 c128_i32_506
  let v710 : BitVec 32 := Scalar.subi v646 v709
  let c256_i32_548 : BitVec 32 := 256#32
  let v773 : BitVec 32 := Scalar.muli v48 c256_i32_548
  let v774 : BitVec 32 := Scalar.subi v710 v773
  let v808 : BitVec 32 := v774
  let c0_i32_573 : BitVec 32 := 0#32
  ![v808.toNat, 0]
def k0_dev24 (d0 : Dev nD) : Nat :=
  let c0_i32_572 : BitVec 32 := 0#32
  let c8_i32_16 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v35 : BitVec 32 := Scalar.muli c8_i32_16 v19
  let c2_i32 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let v36 : BitVec 32 := Scalar.muli c2_i32 v33
  let v37 : BitVec 32 := Scalar.addi v35 v36
  let c1_i32_15 : BitVec 32 := 1#32
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let v34 : BitVec 32 := Scalar.subi c1_i32_15 v32
  let c1_i32_17 : BitVec 32 := 1#32
  let v38 : BitVec 32 := Scalar.andi v33 c1_i32_17
  let v39 : BitVec 32 := Scalar.xori v34 v38
  let v40 : BitVec 32 := Scalar.addi v37 v39
  let c1_i32_571 : BitVec 32 := 1#32
  let v809 : BitVec 32 := Scalar.muli v40 c1_i32_571
  let v810 : BitVec 32 := Scalar.addi c0_i32_572 v809
  v810.toNat
def k0_mult71 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let c128_i32_522 : BitVec 32 := 128#32
  let v731 : BitVec 32 := Scalar.muli v32 c128_i32_522
  let v732 : BitVec 32 := Scalar.subi v668 v731
  let c256_i32_564 : BitVec 32 := 256#32
  let v795 : BitVec 32 := Scalar.muli v65 c256_i32_564
  let v796 : BitVec 32 := Scalar.subi v732 v795
  v796
def k0_mult72 (d0 : Dev nD) : BitVec 32 :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let c128_i32_522 : BitVec 32 := 128#32
  let v731 : BitVec 32 := Scalar.muli v32 c128_i32_522
  let v732 : BitVec 32 := Scalar.subi v668 v731
  let c256_i32_564 : BitVec 32 := 256#32
  let v795 : BitVec 32 := Scalar.muli v65 c256_i32_564
  let v796 : BitVec 32 := Scalar.subi v732 v795
  v796
def k0_off28 (d0 : Dev nD) : Fin 2 → Nat :=
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let c128_i32_522 : BitVec 32 := 128#32
  let v731 : BitVec 32 := Scalar.muli v32 c128_i32_522
  let v732 : BitVec 32 := Scalar.subi v668 v731
  let c256_i32_564 : BitVec 32 := 256#32
  let v795 : BitVec 32 := Scalar.muli v65 c256_i32_564
  let v796 : BitVec 32 := Scalar.subi v732 v795
  let v818 : BitVec 32 := v796
  let c0_i32_578 : BitVec 32 := 0#32
  ![v818.toNat, 0]
def k0_dev25 (d0 : Dev nD) : Nat :=
  let c0_i32_577 : BitVec 32 := 0#32
  let c8_i32_19 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v42 : BitVec 32 := Scalar.muli c8_i32_19 v19
  let c2_i32_20 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_18 : BitVec 32 := 1#32
  let v41 : BitVec 32 := Scalar.xori v33 c1_i32_18
  let v43 : BitVec 32 := Scalar.muli c2_i32_20 v41
  let v44 : BitVec 32 := Scalar.addi v42 v43
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c1_i32_21 : BitVec 32 := 1#32
  let v45 : BitVec 32 := Scalar.andi v41 c1_i32_21
  let v46 : BitVec 32 := Scalar.xori v32 v45
  let v47 : BitVec 32 := Scalar.addi v44 v46
  let c1_i32_576 : BitVec 32 := 1#32
  let v819 : BitVec 32 := Scalar.muli v47 c1_i32_576
  let v820 : BitVec 32 := Scalar.addi c0_i32_577 v819
  v820.toNat
def k0_mult73 (d0 : Dev nD) : BitVec 32 :=
  let c2_i32_592 : BitVec 32 := 2#32
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let c128_i32_506 : BitVec 32 := 128#32
  let v709 : BitVec 32 := Scalar.muli v65 c128_i32_506
  let v710 : BitVec 32 := Scalar.subi v646 v709
  let c256_i32_548 : BitVec 32 := 256#32
  let v773 : BitVec 32 := Scalar.muli v48 c256_i32_548
  let v774 : BitVec 32 := Scalar.subi v710 v773
  let c512_i32_591 : BitVec 32 := 512#32
  let v837 : BitVec 32 := Scalar.muli v32 c512_i32_591
  let v838 : BitVec 32 := Scalar.subi v774 v837
  let v839 : BitVec 32 := Scalar.muli c2_i32_592 v838
  let c512_i32_593 : BitVec 32 := 512#32
  let v840 : BitVec 32 := Scalar.addi v839 c512_i32_593
  let v841 : BitVec 32 := Scalar.subi v840 v774
  v841
def k0_off29 (d0 : Dev nD) : Fin 2 → Nat :=
  let c2_i32_592 : BitVec 32 := 2#32
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let c128_i32_506 : BitVec 32 := 128#32
  let v709 : BitVec 32 := Scalar.muli v65 c128_i32_506
  let v710 : BitVec 32 := Scalar.subi v646 v709
  let c256_i32_548 : BitVec 32 := 256#32
  let v773 : BitVec 32 := Scalar.muli v48 c256_i32_548
  let v774 : BitVec 32 := Scalar.subi v710 v773
  let c512_i32_591 : BitVec 32 := 512#32
  let v837 : BitVec 32 := Scalar.muli v32 c512_i32_591
  let v838 : BitVec 32 := Scalar.subi v774 v837
  let v839 : BitVec 32 := Scalar.muli c2_i32_592 v838
  let c512_i32_593 : BitVec 32 := 512#32
  let v840 : BitVec 32 := Scalar.addi v839 c512_i32_593
  let v841 : BitVec 32 := Scalar.subi v840 v774
  let v842 : BitVec 32 := v841
  let v843 : Index := Scalar.indexCast v842
  let c0_594 : Index := 0#32
  ![v843.toNat, 0]
def k0_mult74 (d0 : Dev nD) : BitVec 32 :=
  let c2_i32_592 : BitVec 32 := 2#32
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_61 : BitVec 32 := 0#32
  let v92 : BitVec 1 := Scalar.cmpi .eq v32 c0_i32_61
  let c0_i32_62 : BitVec 32 := 0#32
  let c512_i32_63 : BitVec 32 := 512#32
  let v93 : BitVec 32 := Scalar.select v92 c0_i32_62 c512_i32_63
  let v94 : BitVec 32 := Scalar.addi c0_i32_64 v93
  let c1_i32_14 : BitVec 32 := 1#32
  let v33 : BitVec 32 := Scalar.shrsi v29 c1_i32_14
  let c1_i32_22 : BitVec 32 := 1#32
  let v48 : BitVec 32 := Scalar.andi v33 c1_i32_22
  let c0_i32_131 : BitVec 32 := 0#32
  let v176 : BitVec 1 := Scalar.cmpi .eq v48 c0_i32_131
  let c0_i32_132 : BitVec 32 := 0#32
  let c256_i32_133 : BitVec 32 := 256#32
  let v177 : BitVec 32 := Scalar.select v176 c0_i32_132 c256_i32_133
  let v178 : BitVec 32 := Scalar.addi v94 v177
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_198 : BitVec 32 := 0#32
  let v260 : BitVec 1 := Scalar.cmpi .eq v65 c0_i32_198
  let c0_i32_199 : BitVec 32 := 0#32
  let c128_i32_200 : BitVec 32 := 128#32
  let v261 : BitVec 32 := Scalar.select v260 c0_i32_199 c128_i32_200
  let v262 : BitVec 32 := Scalar.addi v178 v261
  let c1_i32_38 : BitVec 32 := 1#32
  let v73 : BitVec 32 := Scalar.shrsi v19 c1_i32_38
  let c1_i32_39 : BitVec 32 := 1#32
  let v74 : BitVec 32 := Scalar.andi v73 c1_i32_39
  let c0_i32_264 : BitVec 32 := 0#32
  let v344 : BitVec 1 := Scalar.cmpi .eq v74 c0_i32_264
  let c0_i32_265 : BitVec 32 := 0#32
  let c64_i32_266 : BitVec 32 := 64#32
  let v345 : BitVec 32 := Scalar.select v344 c0_i32_265 c64_i32_266
  let v346 : BitVec 32 := Scalar.addi v262 v345
  let c1_i32_27 : BitVec 32 := 1#32
  let v56 : BitVec 32 := Scalar.shrsi v33 c1_i32_27
  let c1_i32_28 : BitVec 32 := 1#32
  let v57 : BitVec 32 := Scalar.andi v56 c1_i32_28
  let c0_i32_330 : BitVec 32 := 0#32
  let v428 : BitVec 1 := Scalar.cmpi .eq v57 c0_i32_330
  let c0_i32_331 : BitVec 32 := 0#32
  let c32_i32_332 : BitVec 32 := 32#32
  let v429 : BitVec 32 := Scalar.select v428 c0_i32_331 c32_i32_332
  let v430 : BitVec 32 := Scalar.addi v346 v429
  let c32_i32_421 : BitVec 32 := 32#32
  let v581 : BitVec 32 := Scalar.muli v57 c32_i32_421
  let v582 : BitVec 32 := Scalar.subi v430 v581
  let c64_i32_464 : BitVec 32 := 64#32
  let v645 : BitVec 32 := Scalar.muli v74 c64_i32_464
  let v646 : BitVec 32 := Scalar.subi v582 v645
  let c128_i32_506 : BitVec 32 := 128#32
  let v709 : BitVec 32 := Scalar.muli v65 c128_i32_506
  let v710 : BitVec 32 := Scalar.subi v646 v709
  let c256_i32_548 : BitVec 32 := 256#32
  let v773 : BitVec 32 := Scalar.muli v48 c256_i32_548
  let v774 : BitVec 32 := Scalar.subi v710 v773
  let c512_i32_591 : BitVec 32 := 512#32
  let v837 : BitVec 32 := Scalar.muli v32 c512_i32_591
  let v838 : BitVec 32 := Scalar.subi v774 v837
  let v839 : BitVec 32 := Scalar.muli c2_i32_592 v838
  let c512_i32_593 : BitVec 32 := 512#32
  let v840 : BitVec 32 := Scalar.addi v839 c512_i32_593
  let v841 : BitVec 32 := Scalar.subi v840 v774
  v841
def k0_mult75 (d0 : Dev nD) : BitVec 32 :=
  let c2_i32_608 : BitVec 32 := 2#32
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let c128_i32_522 : BitVec 32 := 128#32
  let v731 : BitVec 32 := Scalar.muli v32 c128_i32_522
  let v732 : BitVec 32 := Scalar.subi v668 v731
  let c256_i32_564 : BitVec 32 := 256#32
  let v795 : BitVec 32 := Scalar.muli v65 c256_i32_564
  let v796 : BitVec 32 := Scalar.subi v732 v795
  let c512_i32_607 : BitVec 32 := 512#32
  let v859 : BitVec 32 := Scalar.muli v48 c512_i32_607
  let v860 : BitVec 32 := Scalar.subi v796 v859
  let v861 : BitVec 32 := Scalar.muli c2_i32_608 v860
  let c512_i32_609 : BitVec 32 := 512#32
  let v862 : BitVec 32 := Scalar.addi v861 c512_i32_609
  let v863 : BitVec 32 := Scalar.subi v862 v796
  v863
def k0_off30 (d0 : Dev nD) : Fin 2 → Nat :=
  let c2_i32_608 : BitVec 32 := 2#32
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let c128_i32_522 : BitVec 32 := 128#32
  let v731 : BitVec 32 := Scalar.muli v32 c128_i32_522
  let v732 : BitVec 32 := Scalar.subi v668 v731
  let c256_i32_564 : BitVec 32 := 256#32
  let v795 : BitVec 32 := Scalar.muli v65 c256_i32_564
  let v796 : BitVec 32 := Scalar.subi v732 v795
  let c512_i32_607 : BitVec 32 := 512#32
  let v859 : BitVec 32 := Scalar.muli v48 c512_i32_607
  let v860 : BitVec 32 := Scalar.subi v796 v859
  let v861 : BitVec 32 := Scalar.muli c2_i32_608 v860
  let c512_i32_609 : BitVec 32 := 512#32
  let v862 : BitVec 32 := Scalar.addi v861 c512_i32_609
  let v863 : BitVec 32 := Scalar.subi v862 v796
  let v864 : BitVec 32 := v863
  let v865 : Index := Scalar.indexCast v864
  let c0_610 : Index := 0#32
  ![v865.toNat, 0]
def k0_mult76 (d0 : Dev nD) : BitVec 32 :=
  let c2_i32_608 : BitVec 32 := 2#32
  let c1024_i32_82 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.shrsi v29 c1_i32_14
  let c1_i32_22 : BitVec 32 := 1#32
  let v48 : BitVec 32 := Scalar.andi v33 c1_i32_22
  let c0_i32_79 : BitVec 32 := 0#32
  let v114 : BitVec 1 := Scalar.cmpi .eq v48 c0_i32_79
  let c0_i32_80 : BitVec 32 := 0#32
  let c512_i32_81 : BitVec 32 := 512#32
  let v115 : BitVec 32 := Scalar.select v114 c0_i32_80 c512_i32_81
  let v116 : BitVec 32 := Scalar.addi c1024_i32_82 v115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v65 : BitVec 32 := Scalar.andi v19 c1_i32_33
  let c0_i32_147 : BitVec 32 := 0#32
  let v198 : BitVec 1 := Scalar.cmpi .eq v65 c0_i32_147
  let c0_i32_148 : BitVec 32 := 0#32
  let c256_i32_149 : BitVec 32 := 256#32
  let v199 : BitVec 32 := Scalar.select v198 c0_i32_148 c256_i32_149
  let v200 : BitVec 32 := Scalar.addi v116 v199
  let c1_i32_11 : BitVec 32 := 1#32
  let v30 : BitVec 32 := Scalar.addi v29 c1_i32_11
  let c1_i32_12 : BitVec 32 := 1#32
  let v31 : BitVec 32 := Scalar.shrsi v30 c1_i32_12
  let c1_i32_13 : BitVec 32 := 1#32
  let v32 : BitVec 32 := Scalar.andi v31 c1_i32_13
  let c0_i32_213 : BitVec 32 := 0#32
  let v282 : BitVec 1 := Scalar.cmpi .eq v32 c0_i32_213
  let c0_i32_214 : BitVec 32 := 0#32
  let c128_i32_215 : BitVec 32 := 128#32
  let v283 : BitVec 32 := Scalar.select v282 c0_i32_214 c128_i32_215
  let v284 : BitVec 32 := Scalar.addi v200 v283
  let c1_i32_27 : BitVec 32 := 1#32
  let v56 : BitVec 32 := Scalar.shrsi v33 c1_i32_27
  let c1_i32_28 : BitVec 32 := 1#32
  let v57 : BitVec 32 := Scalar.andi v56 c1_i32_28
  let c0_i32_278 : BitVec 32 := 0#32
  let v366 : BitVec 1 := Scalar.cmpi .eq v57 c0_i32_278
  let c0_i32_279 : BitVec 32 := 0#32
  let c64_i32_280 : BitVec 32 := 64#32
  let v367 : BitVec 32 := Scalar.select v366 c0_i32_279 c64_i32_280
  let v368 : BitVec 32 := Scalar.addi v284 v367
  let c1_i32_38 : BitVec 32 := 1#32
  let v73 : BitVec 32 := Scalar.shrsi v19 c1_i32_38
  let c1_i32_39 : BitVec 32 := 1#32
  let v74 : BitVec 32 := Scalar.andi v73 c1_i32_39
  let c0_i32_344 : BitVec 32 := 0#32
  let v450 : BitVec 1 := Scalar.cmpi .eq v74 c0_i32_344
  let c0_i32_345 : BitVec 32 := 0#32
  let c32_i32_346 : BitVec 32 := 32#32
  let v451 : BitVec 32 := Scalar.select v450 c0_i32_345 c32_i32_346
  let v452 : BitVec 32 := Scalar.addi v368 v451
  let c32_i32_437 : BitVec 32 := 32#32
  let v603 : BitVec 32 := Scalar.muli v74 c32_i32_437
  let v604 : BitVec 32 := Scalar.subi v452 v603
  let c64_i32_480 : BitVec 32 := 64#32
  let v667 : BitVec 32 := Scalar.muli v57 c64_i32_480
  let v668 : BitVec 32 := Scalar.subi v604 v667
  let c128_i32_522 : BitVec 32 := 128#32
  let v731 : BitVec 32 := Scalar.muli v32 c128_i32_522
  let v732 : BitVec 32 := Scalar.subi v668 v731
  let c256_i32_564 : BitVec 32 := 256#32
  let v795 : BitVec 32 := Scalar.muli v65 c256_i32_564
  let v796 : BitVec 32 := Scalar.subi v732 v795
  let c512_i32_607 : BitVec 32 := 512#32
  let v859 : BitVec 32 := Scalar.muli v48 c512_i32_607
  let v860 : BitVec 32 := Scalar.subi v796 v859
  let v861 : BitVec 32 := Scalar.muli c2_i32_608 v860
  let c512_i32_609 : BitVec 32 := 512#32
  let v862 : BitVec 32 := Scalar.addi v861 c512_i32_609
  let v863 : BitVec 32 := Scalar.subi v862 v796
  v863
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩
abbrev S32x2048x1024 : Shape := ⟨3, ![32, 2048, 1024]⟩
abbrev S_ : Shape := ⟨0, ![]⟩
abbrev S2048x1024 : Shape := ⟨2, ![2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S32x2048x1024, .f32⟩
  | .hbm, ⟨2, _⟩ => ⟨S_, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Mesh.lean ====
/-
  The mesh of the exchange: 32 devices as the corners of a five-dimensional cube, the partner of a device along each
  of the five dimensions, the order in which each half of the rows visits the dimensions, and the rows a device keeps
  after each halving. Nothing here mentions a program.
-/
module

public import Idealize.ShloMosaic.Lib.Layout

@[expose] public section

namespace Cert.Mesh

/-- The five dimensions are numbered as the kernel signals them: x, y0, z0, z1, y1. A device's partner along one of
    them differs from it in these bits of its number (stepping along y0 also flips the lowest bit, as the two
    columns of a row of chips are numbered back and forth). -/
def mask (j : Fin 5) : ℕ := match j with | 0 => 1 | 1 => 3 | 2 => 8 | 3 => 16 | 4 => 4

/-- The device's coordinate along a dimension. -/
def bit (j : Fin 5) (c : Fin 32) : ℕ := match j with
  | 0 => (c.val % 8 + 1) / 2 % 2 | 1 => c.val % 8 / 2 % 2 | 2 => c.val / 8 % 2 | 3 => c.val / 16 % 2 | 4 => c.val / 4 % 2

/-- The device's partner along a dimension. -/
def pr (j : Fin 5) (c : Fin 32) : Fin 32 := ⟨(c.val ^^^ mask j) % 32, Nat.mod_lt _ (by decide)⟩

/-- The dimension that half `p` of the rows is exchanged along in round `r`. -/
def dim (p : Fin 2) (r : Fin 5) : Fin 5 := match p, r with
  | 0, r => r
  | 1, 0 => 1 | 1, 1 => 2 | 1, 2 => 0 | 1, 3 => 4 | 1, 4 => 3

/-- `dim` at a round given as a natural number. -/
def dimN (p : Fin 2) (r : ℕ) : Fin 5 := dim p ⟨r % 5, Nat.mod_lt _ (by decide)⟩

/-- How many rows of its half a device keeps before round `r`. -/
def sz (r : ℕ) : ℕ := 1024 / 2 ^ r

/-- The first of the rows of half `p` that device `c` keeps before round `r`. -/
def off (p : Fin 2) : ℕ → Fin 32 → ℕ
  | 0, _ => 1024 * p.val
  | r + 1, c => off p r c + bit (dimN p r) c * sz (r + 1)

/-- Where round `r` of half `p` has its slot in the staging and landing buffers. -/
def slotR (p : Fin 2) (r : ℕ) : ℕ := 992 * p.val + (1024 - sz r)

/-- The device that ends up with chunk `q` (of 32 rows) of the whole array. -/
def owner (q : ℕ) : Fin 32 := ((List.finRange 32).find? fun d => off 0 5 d == 32 * q || off 1 5 d == 32 * q).getD 0

/-! ## The twenty transfers of a device -/

/-- The half of the rows a transfer belongs to. -/
def part (s : Fin 20) : Fin 2 := ⟨s.val / 10, by omega⟩
/-- Whether a transfer is one of the gathering phase. -/
def gat (s : Fin 20) : Bool := s.val / 5 % 2 == 1
/-- The round of a transfer. -/
def rnd (s : Fin 20) : Fin 5 := ⟨s.val % 5, Nat.mod_lt _ (by decide)⟩
/-- The dimension a transfer goes along. -/
def dimS (s : Fin 20) : Fin 5 := dim (part s) (rnd s)
/-- The device at the other end of it. -/
def peer (s : Fin 20) (c : Fin 32) : Fin 32 := pr (dimS s) c
/-- How many rows it moves. -/
def len (s : Fin 20) : ℕ := sz (rnd s + 1)
/-- Its place in the order of the program's steps, from 2 on. -/
def phase (s : Fin 20) : ℕ := if gat s then 11 - rnd s else 2 + rnd s
/-- The order in which the kernel issues the transfers. -/
def order : List (Fin 20) := [0, 10, 1, 11, 2, 12, 3, 13, 4, 14, 9, 19, 8, 18, 7, 17, 6, 16, 5, 15]

theorem order_nodup : order.Nodup := by decide
theorem order_all : ∀ s : Fin 20, s ∈ order := by decide

theorem pr_pr : ∀ (j : Fin 5) (c : Fin 32), pr j (pr j c) = c := by decide +kernel
theorem peer_peer (s : Fin 20) (c : Fin 32) : peer s (peer s c) = c := pr_pr _ _
/-- A dimension of the cube as a permutation of the devices. -/
def swap (j : Fin 5) : Fin 32 ≃ Fin 32 := ⟨pr j, pr j, pr_pr j, pr_pr j⟩

theorem pr_inj : ∀ (c : Fin 32) (j k : Fin 5), pr j c = pr k c → j = k := by decide +kernel

/-- The rows kept before a round split into those kept after it by the device and those kept by its partner. -/
theorem off_split : ∀ (p : Fin 2) (r : Fin 5) (c : Fin 32),
    (off p (r + 1) c = off p r c ∧ off p (r + 1) (pr (dim p r) c) = off p r c + sz (r + 1))
      ∨ (off p (r + 1) (pr (dim p r) c) = off p r c ∧ off p (r + 1) c = off p r c + sz (r + 1)) := by decide +kernel

/-- A device and its partner along a round's dimension keep the same rows before the round. -/
theorem off_pr : ∀ (p : Fin 2) (r : Fin 5) (c : Fin 32), off p r (pr (dim p r) c) = off p r c := by decide +kernel

theorem sz_half : ∀ r : Fin 5, sz r = sz (r + 1) + sz (r + 1) := by decide
theorem sz_pos : ∀ r : Fin 6, 0 < sz r := by decide

/-- The rows kept are rows of the half. -/
theorem off_range : ∀ (p : Fin 2) (r : Fin 6) (c : Fin 32),
    1024 * p.val ≤ off p r c ∧ off p r c + sz r ≤ 1024 * p.val + 1024 := by decide +kernel

/-- The rows kept at the end are a chunk of 32. -/
theorem off_chunk : ∀ (p : Fin 2) (c : Fin 32), off p 5 c = 32 * (off p 5 c / 32) := by decide +kernel

/-- The owner of a device's chunk is the device. -/
theorem owner_off : ∀ (p : Fin 2) (c : Fin 32), owner (off p 5 c / 32) = c := by decide +kernel

theorem slot_range : ∀ (p : Fin 2) (r : Fin 5), slotR p r + sz (r + 1) ≤ 992 * p.val + 992 := by decide

end Cert.Mesh

end
-- ==== Proof.Contents.lean ====
/-
  What the buffers of the exchange hold, as functions of the devices' blocks and of any float operations: the partial
  sums after each round of the reducing phase, the narrowed pieces in flight, and the result.
-/
module

public import proofs.«01_k».proof.Proof.Mesh
public import Idealize.ShloMosaic.PureOps.Float

@[expose] public section

noncomputable section

namespace Cert.Mesh

open Idealize.ShloMosaic

variable {F : FTy → Type} [FloatOps F]

/-- The shape of a buffer of `M` rows. -/
abbrev Sh (M : ℕ) : Shape := ⟨2, ![M, 1024]⟩

/-- Narrowing to the format the pieces travel in, -/
def nar (v : F .f32) : F .bf16 := FloatOps.truncf .bf16 (by decide) v
/-- and widening back. -/
def wid (v : F .bf16) : F .f32 := FloatOps.extf .f32 (by decide) v
/-- The larger of a value and zero. -/
def pos (v : F .f32) : F .f32 := FloatOps.maximumf v (Scalar.ofBits .f32 0x00000000#32)
/-- The function applied to each total: tanh v · v · v + (max v 0)³. -/
def act (v : F .f32) : F .f32 :=
  FloatOps.addf (FloatOps.mulf (FloatOps.mulf (FloatOps.tanh v) v) v) (FloatOps.mulf (FloatOps.mulf (pos v) (pos v)) (pos v))

/-- The row of an index, -/
def row {M : ℕ} (i : (Sh M).Idx) : ℕ := (i 0).val
/-- and its half. -/
def half {M : ℕ} (i : (Sh M).Idx) : Fin 2 := ⟨row i / 1024 % 2, Nat.mod_lt _ (by decide)⟩
/-- The index on row `n` (below 2048) in the column of `i`. -/
def atRow {M : ℕ} (n : ℕ) (i : (Sh M).Idx) : (Sh 2048).Idx := fun a => match a with
  | 0 => ⟨n % 2048, Nat.mod_lt _ (by decide)⟩
  | 1 => (i 1 : Fin 1024)

variable (x : Fin 32 → (Sh 2048).Idx → F .f32)

/-- Device `c`'s partial sum after `r` rounds along half `p`'s dimensions. -/
def part_sum (p : Fin 2) : ℕ → Fin 32 → (Sh 2048).Idx → F .f32
  | 0, c => x c
  | r + 1, c => fun i => FloatOps.addf (part_sum p r c i) (wid (nar (part_sum p r (pr (dimN p r) c) i)))

/-- What device `c` stages for its reducing transfer `s`: the rows its peer keeps, narrowed, from the transfer's slot on. -/
def staged (s : Fin 20) (c : Fin 32) : (Sh 1984).Idx → F .bf16 := fun i =>
  nar (part_sum x (part s) (rnd s) c (atRow (off (part s) (rnd s + 1) (peer s c) + (row i - slotR (part s) (rnd s))) i))

/-- The function of device `c`'s total. -/
def final (c : Fin 32) : (Sh 2048).Idx → F .f32 := fun i => act (part_sum x (half i) 5 c i)

/-- The gathered pieces, narrowed: each row as its owner computed it. -/
def gathered : (Sh 2048).Idx → F .bf16 := fun i => nar (final x (owner (row i / 32)) i)

/-- The result on device `c`: its own chunks as computed, the others as gathered. -/
def result (c : Fin 32) : (Sh 2048).Idx → F .f32 := fun i =>
  if off (half i) 5 c ≤ row i ∧ row i < off (half i) 5 c + 32 then final x c i else wid (gathered x i)

/-- What the result buffer of device `c` holds on the rows of half `p` after `k` of the half's eleven steps: five rounds
    of summing, the function, five rounds of gathering. -/
def Holds (p : Fin 2) (k : ℕ) (c : Fin 32) (f : (Sh 2048).Idx → F .f32) : Prop :=
  ∀ i, if k ≤ 5 then off p k c ≤ row i → row i < off p k c + sz k → f i = part_sum x p k c i
    else off p (11 - k) c ≤ row i → row i < off p (11 - k) c + sz (11 - k) → f i = result x c i

/-- The elements of `n` rows from row `lo` on. -/
def rows (M lo n : ℕ) : Finset (Sh M).Idx := Finset.univ.filter fun i => lo ≤ row i ∧ row i < lo + n

theorem mem_rows {M lo n : ℕ} {i : (Sh M).Idx} : i ∈ rows M lo n ↔ lo ≤ row i ∧ row i < lo + n := by
  unfold rows; rw [Finset.mem_filter]; exact and_iff_right (Finset.mem_univ _)

theorem rows_disjoint {M lo n lo' n' : ℕ} (h : lo + n ≤ lo' ∨ lo' + n' ≤ lo) : Disjoint (rows M lo n) (rows M lo' n') :=
  Finset.disjoint_left.mpr fun i hi hi' => by
    rw [mem_rows] at hi hi'; omega

theorem rows_union (M lo n n' : ℕ) : rows M lo n ∪ rows M (lo + n) n' = rows M lo (n + n') := by
  ext i; rw [Finset.mem_union, mem_rows, mem_rows, mem_rows]; omega

theorem rows_all (M : ℕ) : rows M 0 M = Finset.univ := by
  ext i; rw [mem_rows]
  have : row i < M := (i 0).isLt
  exact iff_of_true (by omega) (Finset.mem_univ _)

/-- A block of whole rows, as a program writes it, has those rows' elements. -/
theorem rect_set {M lo n : ℕ} {o : Fin 2 → ℕ} (ho : o = ![lo, 0]) (inb : ∀ a, o a + ![n, 1024] a ≤ (Sh M).size a) :
    (Rect.unit (s := Sh M) o ![n, 1024] inb).set = rows M lo n := by
  subst ho
  ext i
  rw [Rect.mem_set_unit, mem_rows]
  have h1 : (i 1).val < 1024 := (i 1).isLt
  constructor
  · intro h; exact h 0
  · intro h a
    match a with
    | 0 => exact h
    | 1 => exact ⟨Nat.zero_le _, by show (i 1).val < 0 + 1024; omega⟩

/-- The row of the `j`-th element of such a block. -/
theorem rect_row {M lo n : ℕ} {o : Fin 2 → ℕ} (ho : o = ![lo, 0]) (inb : ∀ a, o a + ![n, 1024] a ≤ (Sh M).size a)
    (j : (Sh n).Idx) : row (M := M) ((Rect.unit (s := Sh M) o ![n, 1024] inb).emb j) = lo + row j := by
  subst ho
  show lo + 1 * (j 0).val = lo + (j 0).val
  omega

end Cert.Mesh

end
-- ==== Proof.Updates.lean ====
/-
  What each kind of step does to the contents: staging rows, adding received ones, applying the function, widening
  gathered rows. Each theorem speaks of functions on the indices of the buffers, and of where a block of rows lies in one.
-/
module

public import proofs.«01_k».proof.Proof.Contents

@[expose] public section

noncomputable section

namespace Cert.Mesh

open Idealize.ShloMosaic

variable {F : FTy → Type} [FloatOps F]

/-- `e` places a block of `n` rows in an array of `M`, from row `lo` on. -/
def Places {M n : ℕ} (e : (Sh n).Idx → (Sh M).Idx) (lo : ℕ) : Prop :=
  ∀ j, row (e j) = lo + row j ∧ ((e j) 1).val = (j 1).val

theorem rect_places {M lo n : ℕ} {o : Fin 2 → ℕ} (ho : o = ![lo, 0]) (inb : ∀ a, o a + ![n, 1024] a ≤ (Sh M).size a) :
    Places (Rect.unit (s := Sh M) o ![n, 1024] inb).emb lo := fun j =>
  ⟨rect_row ho inb j, by subst ho; show 0 + 1 * (j 1).val = (j 1).val; omega⟩

theorem idx_ext {M : ℕ} {i i' : (Sh M).Idx} (h0 : row i = row i') (h1 : (i 1).val = (i' 1).val) : i = i' :=
  funext fun a => match a with
    | 0 => Fin.ext h0
    | 1 => Fin.ext h1

/-- Every index of those rows is one of the block's. -/
theorem Places.surj {M n lo : ℕ} {e : (Sh n).Idx → (Sh M).Idx} (he : Places e lo) {i : (Sh M).Idx} (hi : i ∈ rows M lo n) : ∃ j, e j = i := by
  rw [mem_rows] at hi
  refine ⟨fun a => match a with | 0 => ⟨row i - lo, by show _ < n; omega⟩ | 1 => (i 1 : Fin 1024), ?_⟩
  refine idx_ext ?_ ((he _).2)
  rw [(he _).1]; show lo + (row i - lo) = row i; omega

theorem Places.mem {M n lo : ℕ} {e : (Sh n).Idx → (Sh M).Idx} (he : Places e lo) (j : (Sh n).Idx) : e j ∈ rows M lo n := by
  rw [mem_rows, (he j).1]
  have : row j < n := (j 0).isLt
  omega

theorem atRow_eq {M : ℕ} {n : ℕ} {i : (Sh M).Idx} {k : (Sh 2048).Idx} (h0 : row k = n) (h1 : (k 1).val = (i 1).val) : atRow n i = k := by
  have : row k < 2048 := (k 0).isLt
  refine idx_ext ?_ h1.symm
  show n % 2048 = row k
  rw [h0, Nat.mod_eq_of_lt (by omega)]

/-- The rows a device keeps later are among those it keeps now. -/
theorem off_nest : ∀ (p : Fin 2) (r : Fin 6) (c : Fin 32), off p r c ≤ off p 5 c ∧ off p 5 c + 32 ≤ off p r c + sz r := by decide +kernel

theorem sz_five : sz 5 = 32 := by decide

theorem dimN_rnd (s : Fin 20) : dimN (part s) (rnd s) = dimS s := by
  unfold dimN dimS; congr 1; exact Fin.ext (Nat.mod_eq_of_lt (rnd s).isLt)

/-- The rows a transfer's two devices keep after its round, of those both keep before it. -/
theorem split (s : Fin 20) (c : Fin 32) :
    (off (part s) (rnd s + 1) c = off (part s) (rnd s) c ∧ off (part s) (rnd s + 1) (peer s c) = off (part s) (rnd s) c + len s)
      ∨ (off (part s) (rnd s + 1) (peer s c) = off (part s) (rnd s) c ∧ off (part s) (rnd s + 1) c = off (part s) (rnd s) c + len s) :=
  off_split (part s) (rnd s) c

theorem sz_rnd (s : Fin 20) : sz (rnd s) = len s + len s := sz_half (rnd s)

/-- A row of a half, by its number. -/
theorem half_eq {p : Fin 2} {i : (Sh 2048).Idx} (h : 1024 * p.val ≤ row i ∧ row i < 1024 * p.val + 1024) : half i = p := by
  refine Fin.ext ?_
  show row i / 1024 % 2 = p.val
  have := p.isLt
  omega

variable (x : Fin 32 → (Sh 2048).Idx → F .f32)

/-- A change to rows of one half leaves what is known of the other. -/
theorem holds_other {p p' : Fin 2} (h : p' ≠ p) {k lo n : ℕ} (hk : k ≤ 11) {c : Fin 32} {f f' : (Sh 2048).Idx → F .f32}
    (hlo : 1024 * p.val ≤ lo) (hn : lo + n ≤ 1024 * p.val + 1024)
    (hout : ∀ i, i ∉ rows 2048 lo n → f' i = f i) (hf : Holds x p' k c f) : Holds x p' k c f' := by
  intro i
  have hp : p.val ≠ p'.val := fun e => h (Fin.ext e.symm)
  have hp2 := p.isLt
  have hp2' := p'.isLt
  have key : ∀ q : ℕ, q ≤ 5 → off p' q c ≤ row i → row i < off p' q c + sz q → f' i = f i := by
    intro q hq h1 h2
    refine hout i ?_
    rw [mem_rows]
    have := off_range p' ⟨q, by omega⟩ c
    dsimp only at this
    omega
  have hfi := hf i
  split
  · next hle => intro h1 h2; rw [key k hle h1 h2]; rw [if_pos hle] at hfi; exact hfi h1 h2
  · next hle => intro h1 h2; rw [key (11 - k) (by omega) h1 h2]; rw [if_neg hle] at hfi; exact hfi h1 h2

variable (s : Fin 20) (c : Fin 32)

/-- Narrowing the rows the peer keeps into the slot stages the transfer. -/
theorem step_stage {f : (Sh 2048).Idx → F .f32} (hf : Holds x (part s) (rnd s) c f)
    {es : (Sh (len s)).Idx → (Sh 2048).Idx} (hes : Places es (off (part s) (rnd s + 1) (peer s c)))
    {el : (Sh (len s)).Idx → (Sh 1984).Idx} (hel : Places el (slotR (part s) (rnd s)))
    {g : (Sh 1984).Idx → F .bf16} (hg : ∀ j, g (el j) = nar (f (es j))) :
    ∀ i ∈ rows 1984 (slotR (part s) (rnd s)) (len s), g i = staged x s c i := by
  intro i hi
  obtain ⟨j, rfl⟩ := hel.surj hi
  rw [hg]
  unfold staged
  have hr := (hel j).1
  rw [atRow_eq (k := es j) (by rw [(hes j).1, hr]; omega) ((hes j).2.trans (hel j).2.symm)]
  congr 1
  have h1 := (hes j).1
  have h2 : row j < len s := (j 0).isLt
  have hle : (rnd s).val ≤ 5 := Nat.le_of_lt (rnd s).isLt
  have := hf (es j)
  rw [if_pos hle] at this
  have hs := split s c
  have hz := sz_rnd s
  exact this (by omega) (by omega)

/-- Adding what the peer staged to the rows kept is the next partial sum. -/
theorem step_add {f f' : (Sh 2048).Idx → F .f32} {k : Fin 2 → ℕ} (hk : k (part s) = rnd s) (hk' : ∀ p, k p ≤ 11) (hf : ∀ p, Holds x p (k p) c f)
    {ek : (Sh (len s)).Idx → (Sh 2048).Idx} (hek : Places ek (off (part s) (rnd s + 1) c))
    {el : (Sh (len s)).Idx → (Sh 1984).Idx} (hel : Places el (slotR (part s) (rnd s)))
    {w : (Sh (len s)).Idx → F .bf16} (hw : ∀ j, w j = staged x s (peer s c) (el j))
    (hin : ∀ j, f' (ek j) = FloatOps.addf (f (ek j)) (wid (w j)))
    (hout : ∀ i, i ∉ rows 2048 (off (part s) (rnd s + 1) c) (len s) → f' i = f i) :
    ∀ p, Holds x p (Function.update k (part s) (rnd s + 1) p) c f' := by
  have hrange := off_range (part s) (rnd s).succ c
  intro p
  by_cases hp : p = part s
  · subst hp
    rw [Function.update_self]
    intro i
    rw [if_pos (Nat.succ_le_of_lt (rnd s).isLt)]
    intro h1 h2
    obtain ⟨j, rfl⟩ := hek.surj (mem_rows.mpr ⟨h1, h2⟩)
    rw [hin, hw]
    unfold staged
    have hr := (hel j).1
    have hr' := (hek j).1
    have h3 : row j < len s := (j 0).isLt
    rw [peer_peer, atRow_eq (k := ek j) (by rw [hr', hr]; omega) ((hek j).2.trans (hel j).2.symm)]
    have hfi := hf (part s) (ek j)
    rw [hk, if_pos (Nat.le_of_lt (rnd s).isLt)] at hfi
    have hs := split s c
    have hz := sz_rnd s
    rw [hfi (by omega) (by omega)]
    show _ = FloatOps.addf _ (wid (nar (part_sum x (part s) (rnd s) (pr (dimN (part s) (rnd s)) c) (ek j))))
    rw [dimN_rnd]
    rfl
  · rw [Function.update_of_ne hp]
    exact holds_other x hp (hk' p) hrange.1 hrange.2 hout (hf p)

/-- Applying the function to the rows kept at the end makes them the result's; -/
theorem step_act (hr : rnd s = 4) {f f' : (Sh 2048).Idx → F .f32} {k : Fin 2 → ℕ} (hk : k (part s) = 5) (hk' : ∀ p, k p ≤ 11)
    (hf : ∀ p, Holds x p (k p) c f)
    {ek : (Sh (len s)).Idx → (Sh 2048).Idx} (hek : Places ek (off (part s) (rnd s + 1) c))
    (hin : ∀ j, f' (ek j) = act (f (ek j)))
    (hout : ∀ i, i ∉ rows 2048 (off (part s) (rnd s + 1) c) (len s) → f' i = f i) :
    (∀ p, Holds x p (Function.update k (part s) 6 p) c f')
      ∧ ∀ j, nar (f' (ek j)) = gathered x (ek j) := by
  have hrange := off_range (part s) (rnd s).succ c
  have h5 : (rnd s : ℕ) + 1 = 5 := by rw [hr]; rfl
  have hlen : len s = 32 := by unfold len; rw [h5]; exact sz_five
  have hin' : ∀ j, f' (ek j) = final x c (ek j) ∧ half (ek j) = part s ∧ off (part s) 5 c ≤ row (ek j) ∧ row (ek j) < off (part s) 5 c + 32 := by
    intro j
    have hr' := (hek j).1
    have h3 : row j < len s := (j 0).isLt
    have hh : half (ek j) = part s := half_eq (by
      have e : (((rnd s).succ : Fin 6) : ℕ) = rnd s + 1 := rfl
      rw [e] at hrange
      have e2 : sz (rnd s + 1) = len s := rfl
      omega)
    have hfi := hf (part s) (ek j)
    rw [hk, if_pos (Nat.le_refl 5), sz_five] at hfi
    rw [h5] at hr'
    refine ⟨?_, hh, by omega, by omega⟩
    rw [hin, hfi (by omega) (by omega)]
    unfold final; rw [hh]
  constructor
  · intro p
    by_cases hp : p = part s
    · subst hp
      rw [Function.update_self]
      intro i
      rw [if_neg (by decide)]
      intro h1 h2
      obtain ⟨j, rfl⟩ := hek.surj (i := i) (by rw [mem_rows, h5, hlen]; exact ⟨h1, by rwa [show sz (11 - 6) = 32 from sz_five] at h2⟩)
      obtain ⟨ha, hb, hc, hd⟩ := hin' j
      unfold result
      rw [hb, if_pos ⟨hc, hd⟩, ha]
    · rw [Function.update_of_ne hp]
      exact holds_other x hp (hk' p) hrange.1 hrange.2 hout (hf p)
  · intro j
    obtain ⟨ha, hb, hc, hd⟩ := hin' j
    unfold gathered
    have hch := off_chunk (part s) c
    rw [ha, show row (ek j) / 32 = off (part s) 5 c / 32 by omega, owner_off]

/-- and widening the rows the peer kept, as gathered, makes those the result's. -/
theorem step_ext {f f' : (Sh 2048).Idx → F .f32} {k : Fin 2 → ℕ} (hk : k (part s) = 10 - rnd s) (hk' : ∀ p, k p ≤ 11)
    (hf : ∀ p, Holds x p (k p) c f)
    {ek : (Sh (len s)).Idx → (Sh 2048).Idx} (hek : Places ek (off (part s) (rnd s + 1) (peer s c)))
    (hin : ∀ j, f' (ek j) = wid (gathered x (ek j)))
    (hout : ∀ i, i ∉ rows 2048 (off (part s) (rnd s + 1) (peer s c)) (len s) → f' i = f i) :
    ∀ p, Holds x p (Function.update k (part s) (11 - rnd s) p) c f' := by
  have hlt := (rnd s).isLt
  have hrange := off_range (part s) (rnd s).succ (peer s c)
  intro p
  by_cases hp : p = part s
  · subst hp
    rw [Function.update_self]
    intro i
    rw [if_neg (by omega), show 11 - (11 - (rnd s : ℕ)) = rnd s by omega]
    intro h1 h2
    have hs := split s c
    have hz := sz_rnd s
    have hnest := off_nest (part s) (rnd s).succ c
    have e : (((rnd s).succ : Fin 6) : ℕ) = rnd s + 1 := rfl
    rw [e] at hrange hnest
    have e2 : sz (rnd s + 1) = len s := rfl
    by_cases hm : i ∈ rows 2048 (off (part s) (rnd s + 1) (peer s c)) (len s)
    · have hm' := mem_rows.mp hm
      obtain ⟨j, rfl⟩ := hek.surj hm
      rw [hin]
      unfold result
      have hh : half (ek j) = part s := half_eq (by omega)
      rw [hh, if_neg (by omega)]
    · rw [hout i hm]
      have hfi := hf (part s) i
      rw [hk, if_neg (by omega), show 11 - (10 - (rnd s : ℕ)) = rnd s + 1 by omega] at hfi
      rw [mem_rows] at hm
      exact hfi (by omega) (by omega)
  · rw [Function.update_of_ne hp]
    exact holds_other x hp (hk' p) hrange.1 hrange.2 hout (hf p)

end Cert.Mesh

end
-- ==== Proof.KernelIdealCells.lean ====
/-
  The cells of the exchange: one barrier cell a device, and a sending and a receiving cell for each of its twenty
  transfers; what a unit of each hands over, what a device owes at the start, and the order the waits go in.
-/
module

public import proofs.«01_k».proof.Proof.Contents
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The program's chains, closed -/

/-- The device the program's j-th signal names. -/
def sigDev : Fin 5 → Dev nD → ℕ := ![k0_dev1, k0_dev2, k0_dev3, k0_dev4, k0_dev5]
/-- The device the program addresses transfer `s` to. -/
def sendDev : Fin 20 → Dev nD → ℕ := ![k0_dev6, k0_dev8, k0_dev10, k0_dev12, k0_dev14, k0_dev24, k0_dev22, k0_dev20, k0_dev18, k0_dev16,
  k0_dev7, k0_dev9, k0_dev11, k0_dev13, k0_dev15, k0_dev25, k0_dev23, k0_dev21, k0_dev19, k0_dev17]
/-- Where the rows start that transfer `s` sends, -/
def sendOff : Fin 20 → Dev nD → Fin 2 → ℕ := ![(k0_off1 · 512#32 0#32), (k0_off3 · 256#32 0#32), (k0_off5 · 128#32 0#32), (k0_off7 · 64#32 0#32), (k0_off9 · 32#32 0#32),
  k0_off27, k0_off23, k0_off19, k0_off15, k0_off11,
  (k0_off2 · 512#32 0#32), (k0_off4 · 256#32 0#32), (k0_off6 · 128#32 0#32), (k0_off8 · 64#32 0#32), (k0_off10 · 32#32 0#32),
  k0_off28, k0_off24, k0_off20, k0_off16, k0_off12]
/-- and where those it adds to or writes after receiving. -/
def keepOff : Fin 20 → Dev nD → Fin 2 → ℕ := ![(k0_off1 · 0#32 512#32), (k0_off3 · 0#32 256#32), (k0_off5 · 0#32 128#32), (k0_off7 · 0#32 64#32), (k0_off9 · 0#32 32#32),
  k0_off29, k0_off25, k0_off21, k0_off17, k0_off13,
  (k0_off2 · 0#32 512#32), (k0_off4 · 0#32 256#32), (k0_off6 · 0#32 128#32), (k0_off8 · 0#32 64#32), (k0_off10 · 0#32 32#32),
  k0_off30, k0_off26, k0_off22, k0_off18, k0_off14]

theorem sigDev_eq : ∀ (j : Fin 5) (c : Dev nD), sigDev j c = (pr j c).val := by decide +kernel
theorem sendDev_eq : ∀ (s : Fin 20) (c : Dev nD), sendDev s c = (peer s c).val := by decide +kernel
theorem sendOff_eq : ∀ (s : Fin 20) (c : Dev nD),
    sendOff s c = ![off (part s) (rnd s + 1) (if gat s then c else peer s c), 0] := by decide +kernel
theorem keepOff_eq : ∀ (s : Fin 20) (c : Dev nD),
    keepOff s c = ![off (part s) (rnd s + 1) (if gat s then peer s c else c), 0] := by decide +kernel

/-! ## The resource algebra -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of the argument. -/
def xstg (c : Dev nD) : (cc0_stg0_0 : Ref sig .tc).ty.Contents (Elt F) :=
  (win0_0.blk (0 : Fin 1)).view.read (Elt F) ((s₀ m ρ).mem ((c : Thread nD τ).loc main_arg0))

/-- The blocks of all devices. -/
def xs : Fin 32 → (Sh 2048).Idx → F .f32 := fun c => xstg m ρ c

/-! ## The semaphores and their cells -/

abbrev barS : Sem sig := (SemArray.scalar (sig.barrier 0 rfl) : Sems sig S_).sem
/-- Transfer `s`'s sending semaphore -/
def sndS (s : Fin 20) : DmaSem sig := ⟨2 + s.val, Nat.lt_of_lt_of_le (Nat.add_lt_add_left s.isLt 2) (by decide)⟩
/-- and its receiving one. -/
def rcvS (s : Fin 20) : DmaSem sig := ⟨22 + s.val, Nat.lt_of_lt_of_le (Nat.add_lt_add_left s.isLt 22) (by decide)⟩

abbrev barCell (c : Dev nD) : GSem nD τ sig := ((c : Thread nD τ), .reg barS)
abbrev sendCell (s : Fin 20) (c : Dev nD) : GSem nD τ sig := ((c : Thread nD τ), .dma (sndS s))
abbrev recvCell (s : Fin 20) (c : Dev nD) : GSem nD τ sig := ((c : Thread nD τ), .dma (rcvS s))

/-- The kernel's own semaphores: sending, then receiving; -/
abbrev Own : Type := Fin 20 ⊕ Fin 20
def osem : Own → SemLoc sig := Sum.elim (fun s => .dma (sndS s)) (fun s => .dma (rcvS s))
/-- with the barrier's, all of the exchange's. -/
abbrev Ce : Type := Unit ⊕ Own
def csem : Ce → SemLoc sig := Sum.elim (fun _ => .reg barS) osem
def kcell (ck : Dev nD × Ce) : GSem nD τ sig := ((ck.1 : Thread nD τ), csem ck.2)

/-- Which of the exchange's semaphores a semaphore is, if any. -/
def kind (q : SemLoc sig) : Option Ce := match q with
  | .reg _ => some (.inl ())
  | .dma q => if h : q.val < 2 then none else if h' : q.val < 22 then some (.inr (.inl ⟨q.val - 2, by omega⟩))
      else if h'' : q.val < 42 then some (.inr (.inr ⟨q.val - 22, by omega⟩)) else none

theorem kind_bar : kind (.reg barS) = some (.inl ()) := rfl
theorem kind_send : ∀ s, kind (.dma (sndS s)) = some (.inr (.inl s)) := by decide
theorem kind_recv : ∀ s, kind (.dma (rcvS s)) = some (.inr (.inr s)) := by decide
theorem kind_csem : ∀ k, kind (csem k) = some k := by
  rintro (⟨⟩ | s | s)
  · rfl
  · exact kind_send s
  · exact kind_recv s

/-- The units transfer `s` credits. -/
def units (s : Fin 20) : ℕ := RefSig.tileCredit (Sh (len s)) .bf16
theorem units_pos : ∀ s, 0 < units s := by
  intro s
  refine RefSig.tileCredit_pos _ _ ?_
  revert s; decide +kernel

/-! ## What the units hand over -/

/-- Rows of device `c`'s landing buffer for the reducing phase, -/
def landAt (c : Dev nD) (lo n : ℕ) (f : (Sh 1984).Idx → F .bf16) : sProp 𝕄 :=
  ((c : Thread nD τ).loc cc0_scratch0) ↦[rows 1984 lo n]{fullShare} f
/-- of its staging buffer, -/
def stageAt (c : Dev nD) (lo n : ℕ) (f : (Sh 1984).Idx → F .bf16) : sProp 𝕄 :=
  ((c : Thread nD τ).loc cc0_scratch1) ↦[rows 1984 lo n]{fullShare} f
/-- and of its buffer of gathered rows. -/
def gathAt (c : Dev nD) (lo n : ℕ) (f : (Sh 2048).Idx → F .bf16) : sProp 𝕄 :=
  ((c : Thread nD τ).loc cc0_scratch2) ↦[rows 2048 lo n]{fullShare} f

omit [FloatOps F] in
instance landAt_storable (c : Dev nD) (lo n f) : BI.Storable (upEmb : UEmb _ 𝕄) (landAt (F := F) c lo n f) := by unfold landAt; infer_instance
omit [FloatOps F] in
instance stageAt_storable (c : Dev nD) (lo n f) : BI.Storable (upEmb : UEmb _ 𝕄) (stageAt (F := F) c lo n f) := by unfold stageAt; infer_instance
omit [FloatOps F] in
instance gathAt_storable (c : Dev nD) (lo n f) : BI.Storable (upEmb : UEmb _ 𝕄) (gathAt (F := F) c lo n f) := by unfold gathAt; infer_instance

/-- A transfer's slot. -/
def slot (s : Fin 20) : ℕ := slotR (part s) (rnd s)
/-- The rows a device keeps at a transfer's round. -/
def mine (s : Fin 20) (c : Dev nD) : ℕ := off (part s) (rnd s + 1) c

/-- The place on device `d` that transfer `s` of its peer writes, at any contents. -/
def place (s : Fin 20) (d : Dev nD) : sProp 𝕄 :=
  if gat s then iprop(∃ f, gathAt d (mine s (peer s d)) (len s) f) else iprop(∃ f, landAt d (slot s) (len s) f)

/-- What the peer along dimension `j` hands over at the barrier: the places the transfers along `j` write. -/
def barPay (c : Dev nD) (j : Fin 5) : sProp 𝕄 := bigSep (Finset.univ.filter fun s => dimS s = j) fun s => place s (pr j c)
/-- What a sending unit returns: the rows sent from. -/
def sendPay (s : Fin 20) (c : Dev nD) : sProp 𝕄 :=
  if gat s then gathAt c (mine s c) (len s) (gathered (xs m ρ)) else iprop(∃ f, stageAt c (slot s) (len s) f)
/-- What a receiving unit hands over: the rows received. -/
def recvPay (s : Fin 20) (c : Dev nD) : sProp 𝕄 :=
  if gat s then gathAt c (mine s (peer s c)) (len s) (gathered (xs m ρ)) else landAt c (slot s) (len s) (staged (xs m ρ) s (peer s c))

omit [FloatOps F] in
instance place_storable (s : Fin 20) (d : Dev nD) : BI.Storable (upEmb : UEmb _ 𝕄) (place (F := F) s d) := by
  unfold place; split <;> infer_instance
omit [FloatOps F] in
instance barPay_storable (c : Dev nD) (j : Fin 5) : BI.Storable (upEmb : UEmb _ 𝕄) (barPay (F := F) c j) := by unfold barPay; infer_instance
instance sendPay_storable (s : Fin 20) (c : Dev nD) : BI.Storable (upEmb : UEmb _ 𝕄) (sendPay m ρ s c) := by
  unfold sendPay; split <;> infer_instance
instance recvPay_storable (s : Fin 20) (c : Dev nD) : BI.Storable (upEmb : UEmb _ 𝕄) (recvPay m ρ s c) := by
  unfold recvPay; split <;> infer_instance

/-! ## The schedule -/

/-- One round: a barrier cell has five duties of one unit, one a dimension; a sending or receiving cell the duty `0` of
    its transfer's units. -/
def sched : Rounds.Schedule (GSem nD τ sig) (Fin 5) 𝕄 where
  duties g r := if r = 0 ∧ g.1.2 = .tc then (match kind g.2 with | some (.inl _) => Finset.univ | some (.inr _) => {0} | none => ∅) else ∅
  unitless _ := False
  amount g _ _ := match kind g.2 with | some (.inr (.inl s)) => units s | some (.inr (.inr s)) => units s | _ => 1
  payload g _ d := match kind g.2 with
    | some (.inl _) => barPay g.1.1 d
    | some (.inr (.inl s)) => sendPay m ρ s g.1.1
    | some (.inr (.inr s)) => recvPay m ρ s g.1.1
    | none => iprop(emp)
  amount_pos g _ _ _ := by
    split
    · exact units_pos _
    · exact units_pos _
    · exact Nat.one_pos

instance sched_payload_storable (g : GSem nD τ sig) (r : ℕ) (d : Fin 5) :
    BI.Storable (upEmb : UEmb _ 𝕄) ((sched m ρ).payload g r d) := by
  show BI.Storable upEmb (match kind g.2 with
    | some (.inl _) => barPay g.1.1 d
    | some (.inr (.inl s)) => sendPay m ρ s g.1.1
    | some (.inr (.inr s)) => recvPay m ρ s g.1.1
    | none => iprop(emp))
  split <;> infer_instance

section Sched
variable (c : Dev nD) (s : Fin 20)

theorem duties_bar : (sched m ρ).duties (barCell c) 0 = Finset.univ := by
  dsimp only [sched]; rw [if_pos ⟨rfl, rfl⟩, kind_bar]
theorem duties_send : (sched m ρ).duties (sendCell s c) 0 = {0} := by
  dsimp only [sched]; rw [if_pos ⟨rfl, rfl⟩, kind_send]
theorem duties_recv : (sched m ρ).duties (recvCell s c) 0 = {0} := by
  dsimp only [sched]; rw [if_pos ⟨rfl, rfl⟩, kind_recv]
theorem duties_later (g : GSem nD τ sig) : ∀ r, 1 ≤ r → (sched m ρ).duties g r = ∅ :=
  fun r hr => by dsimp only [sched]; rw [if_neg fun h => by omega]

theorem amount_bar (d : Fin 5) : (sched m ρ).amount (barCell c) 0 d = 1 := by dsimp only [sched]; rw [kind_bar]
theorem amount_send (d : Fin 5) : (sched m ρ).amount (sendCell s c) 0 d = units s := by dsimp only [sched]; rw [kind_send]
theorem amount_recv (d : Fin 5) : (sched m ρ).amount (recvCell s c) 0 d = units s := by dsimp only [sched]; rw [kind_recv]

theorem expect_bar : (sched m ρ).expect (barCell c) 0 = 5 := by
  unfold Schedule.expect Schedule.amountOf
  rw [duties_bar, Finset.sum_congr rfl fun d _ => amount_bar m ρ c d]; rfl
theorem expect_send : (sched m ρ).expect (sendCell s c) 0 = units s := by
  unfold Schedule.expect Schedule.amountOf; rw [duties_send, Finset.sum_singleton, amount_send]
theorem expect_recv : (sched m ρ).expect (recvCell s c) 0 = units s := by
  unfold Schedule.expect Schedule.amountOf; rw [duties_recv, Finset.sum_singleton, amount_recv]

theorem payload_bar (d : Fin 5) : (sched m ρ).payload (barCell c) 0 d = barPay c d := by dsimp only [sched]; rw [kind_bar]
theorem payload_send (d : Fin 5) : (sched m ρ).payload (sendCell s c) 0 d = sendPay m ρ s c := by dsimp only [sched]; rw [kind_send]
theorem payload_recv (d : Fin 5) : (sched m ρ).payload (recvCell s c) 0 d = recvPay m ρ s c := by dsimp only [sched]; rw [kind_recv]

/-- After the barrier: the places all twenty transfers write. -/
theorem rest_bar : bigSep ((sched m ρ).duties (barCell c) 0 \ ∅) (fun d => (sched m ρ).payload (barCell c) 0 d)
    ⊢ (bigSep Finset.univ fun s => place s (peer s c) : sProp 𝕄) := by
  rw [Finset.sdiff_empty, duties_bar, bigSep_congr fun d _ => payload_bar m ρ c d]
  have h : (bigSep Finset.univ fun d => (barPay c d : sProp 𝕄))
      = bigSep Finset.univ fun d => bigSep (Finset.univ.filter fun s => dimS s = d) fun s => (place s (peer s c) : sProp 𝕄) :=
    bigSep_congr fun d _ => bigSep_congr fun s hs => by
      rw [Finset.mem_filter] at hs; unfold peer; rw [hs.2]
  rw [h]
  have key := bigSep_biUnion (Φ := fun s => (place s (peer s c) : sProp 𝕄)) Finset.univ (fun d : Fin 5 => Finset.univ.filter fun s => dimS s = d)
  rwa [show (Finset.univ.biUnion fun d : Fin 5 => Finset.univ.filter fun s => dimS s = d) = Finset.univ from by decide] at key
theorem rest_send : bigSep ((sched m ρ).duties (sendCell s c) 0 \ ∅) (fun d => (sched m ρ).payload (sendCell s c) 0 d) = sendPay m ρ s c := by
  rw [Finset.sdiff_empty, duties_send, bigSep_singleton, payload_send]
theorem rest_recv : bigSep ((sched m ρ).duties (recvCell s c) 0 \ ∅) (fun d => (sched m ρ).payload (recvCell s c) 0 d) = recvPay m ρ s c := by
  rw [Finset.sdiff_empty, duties_recv, bigSep_singleton, payload_recv]

end Sched

/-! ## What each device owes, and the levels -/

/-- What device `c` owes for the transfers of `l`: the receiving cells of their peers, in that order. -/
def owed (c : Dev nD) : List (Fin 20) → CellTallies nD τ sig Unit
  | [] => 0
  | s :: l => owed c l + tallyAt (recvCell s (peer s c)) () (units s)
/-- With the barrier units of the dimensions of `j`. -/
def owedBar (c : Dev nD) : List (Fin 5) → CellTallies nD τ sig Unit
  | [] => owed c order
  | j :: l => owedBar c l + tallyAt (barCell (pr j c)) () 1
/-- All that device `c` owes at the start. -/
def O₀ (c : Dev nD) : CellTallies nD τ sig Unit := owedBar c [0, 1, 2, 3, 4]

def L (g : GSem nD τ sig) : Finset Unit := if g.1.2 = .tc then {()} else ∅
/-- Barrier cells at 1, a receiving cell at its transfer's phase, everything else at 0. -/
def lv (g : GSem nD τ sig) (_ : Unit) : ℕ := match kind g.2 with
  | some (.inl _) => 1 | some (.inr (.inr s)) => phase s | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_send (s : Fin 20) (c : Dev nD) (u : Unit) : lv (sendCell s c) u = 0 := by unfold lv; rw [kind_send]
theorem lv_recv (s : Fin 20) (c : Dev nD) (u : Unit) : lv (recvCell s c) u = phase s := by unfold lv; rw [kind_recv]

theorem owed_pos {c : Dev nD} : ∀ {l : List (Fin 20)} {g : GSem nD τ sig} {u : Unit}, 0 < owed c l g u → ∃ s ∈ l, g = recvCell s (peer s c)
  | [], g, u, h => absurd h (Nat.lt_irrefl 0)
  | s :: l, g, u, h => by
    unfold owed at h
    rw [Pi.add_apply, Finsupp.add_apply, tallyAt_apply] at h
    by_cases hg : g = recvCell s (peer s c)
    · exact ⟨s, List.mem_cons_self, hg⟩
    · rw [if_neg (fun h' => hg h'.1)] at h
      obtain ⟨s', hs', he⟩ := owed_pos (l := l) h
      exact ⟨s', List.mem_cons_of_mem _ hs', he⟩

theorem owedBar_pos {c : Dev nD} : ∀ {l : List (Fin 5)} {g : GSem nD τ sig} {u : Unit}, 0 < owedBar c l g u →
    (∃ s ∈ order, g = recvCell s (peer s c)) ∨ ∃ j, g = barCell (pr j c)
  | [], g, u, h => .inl (owed_pos h)
  | j :: l, g, u, h => by
    unfold owedBar at h
    rw [Pi.add_apply, Finsupp.add_apply, tallyAt_apply] at h
    by_cases hg : g = barCell (pr j c)
    · exact .inr ⟨j, hg⟩
    · rw [if_neg (fun h' => hg h'.1)] at h
      exact owedBar_pos (l := l) h

omit [FloatOps F] in
/-- A device may wait on a cell below the phases of the transfers it has still to issue. -/
theorem mayWait (c : Dev nD) (sm : SemLoc sig) (l : List (Fin 20)) (h : ∀ s ∈ l, lv ((c : Thread nD τ), sm) () < phase s) :
    (levAts L lv : sProp 𝕄) ⊢ MayWait (c : Thread nD τ) sm () (owed c l) :=
  MayOwe.of_cut (L := L) (lev := lv) (lv ((c : Thread nD τ), sm) ()) (fun p hp => by rw [Finset.mem_singleton.mp hp, L_tc]; exact Finset.mem_singleton_self _)
    (fun g u hg => by obtain ⟨s, _, rfl⟩ := owed_pos hg; exact Finset.mem_singleton_self _)
    (fun p hp => by rw [Finset.mem_singleton.mp hp])
    (fun g u hg => by obtain ⟨s, hs, rfl⟩ := owed_pos hg; rw [lv_recv]; exact h s hs)

theorem phase_pos : ∀ s, 1 < phase s := by decide

omit [FloatOps F] in
/-- The waits on staging copies, before the exchange and after it. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  have hk : ∀ u, lv ((c : Thread nD τ), SemLoc.dma q) u = 0 := fun u => by
    have h : kind (SemLoc.dma q : SemLoc sig) = none := by unfold kind; exact dif_pos hq
    unfold lv; rw [h]
  rcases hO with rfl | rfl
  · refine MayOwe.of_cut (L := L) (lev := lv) 0 (fun p hp => by rw [Finset.mem_singleton.mp hp, L_tc]; exact Finset.mem_singleton_self _)
      (fun g u hg => by rcases owedBar_pos hg with ⟨s, _, rfl⟩ | ⟨j, rfl⟩ <;> exact Finset.mem_singleton_self _)
      (fun p hp => by rw [Finset.mem_singleton.mp hp, hk])
      (fun g u hg => by
        rcases owedBar_pos hg with ⟨s, _, rfl⟩ | ⟨j, rfl⟩
        · rw [lv_recv]; exact Nat.lt_trans Nat.zero_lt_one (phase_pos s)
        · rw [lv_bar]; exact Nat.zero_lt_one)
  · rw [MayWait_zero]; iintro -; iempintro

end Cert.KernelIdealProof

end
-- ==== Proof.KernelIdealProg.lean ====
/-
  The kernel's body, rewritten with one definition for each kind of step: staging and sending the rows of a transfer,
  waiting for it, adding what it brought, applying the function, widening gathered rows.
-/
module

public import proofs.«01_k».proof.Proof.KernelIdealCells

@[expose] public section

noncomputable section

namespace Cert.KernelIdealProof

open Cert.KernelIdeal Cert.KernelIdeal.Gen Cert.Mesh
open Idealize.ShloMosaic
open Idealize.ShloMosaic.TcCoe
open Idealize.SL.Sem

variable {F : FTy → Type} [FloatOps F]

/-! ## Buffers and rectangles -/

abbrev xM : Memref sig .tc .vmem (Sh 2048) .f32 := Memref.whole cc0_stg0_0
abbrev outM : Memref sig .tc .vmem (Sh 2048) .f32 := Memref.whole cc0_stg1_0
abbrev landM : Memref sig .tc .vmem (Sh 1984) .bf16 := Memref.whole cc0_scratch0
abbrev stageM : Memref sig .tc .vmem (Sh 1984) .bf16 := Memref.whole cc0_scratch1
abbrev gathM : Memref sig .tc .vmem (Sh 2048) .bf16 := Memref.whole cc0_scratch2

theorem mine_inb : ∀ (p : Fin 2) (r : Fin 6) (c : Fin 32) (a : Fin 2), (![off p r c, 0] : Fin 2 → ℕ) a + ![sz r, 1024] a ≤ ![2048, 1024] a := by
  decide +kernel
theorem sendOff_inb (s : Fin 20) (c : Dev nD) (a : Fin 2) : sendOff s c a + (Sh (len s)).size a ≤ (Sh 2048).size a := by
  rw [sendOff_eq]; exact mine_inb (part s) (rnd s).succ _ a
theorem keepOff_inb (s : Fin 20) (c : Dev nD) (a : Fin 2) : keepOff s c a + (Sh (len s)).size a ≤ (Sh 2048).size a := by
  rw [keepOff_eq]; exact mine_inb (part s) (rnd s).succ _ a
theorem slot_inb : ∀ (s : Fin 20) (a : Fin 2), (![slot s, 0] : Fin 2 → ℕ) a + (Sh (len s)).size a ≤ (Sh 1984).size a := by decide +kernel
theorem whole_inb (a : Fin 2) : (![0, 0] : Fin 2 → ℕ) a + (Sh 2048).size a ≤ (Sh 2048).size a := by revert a; decide

/-- The rows a transfer sends, -/
abbrev rS (s : Fin 20) (c : Dev nD) : Rect (Sh 2048) := Rect.unit (s := Sh 2048) (sendOff s c) (Sh (len s)).size (sendOff_inb s c)
/-- those it adds to or writes after receiving, -/
abbrev rK (s : Fin 20) (c : Dev nD) : Rect (Sh 2048) := Rect.unit (s := Sh 2048) (keepOff s c) (Sh (len s)).size (keepOff_inb s c)
/-- its slot, -/
abbrev rL (s : Fin 20) : Rect (Sh 1984) := Rect.unit (s := Sh 1984) ![slot s, 0] (Sh (len s)).size (slot_inb s)
/-- all rows. -/
abbrev rW : Rect (Sh 2048) := Rect.unit (s := Sh 2048) ![0, 0] (Sh 2048).size whole_inb

theorem len_pos : ∀ s : Fin 20, 0 < (Sh (len s)).numel := by decide +kernel
theorem whole_pos : 0 < (Sh 2048).numel := by decide +kernel
theorem len_even : ∀ s : Fin 20, 2 ∣ len s := by decide +kernel
theorem slot_even : ∀ s : Fin 20, 2 ∣ slot s := by decide +kernel
theorem off_even : ∀ (p : Fin 2) (r : Fin 6) (c : Fin 32), 2 ∣ off p r c := by decide +kernel
theorem sendOff_even (s : Fin 20) (c : Dev nD) : 2 ∣ sendOff s c 0 := by rw [sendOff_eq]; exact off_even (part s) (rnd s).succ _
theorem keepOff_even (s : Fin 20) (c : Dev nD) : 2 ∣ keepOff s c 0 := by rw [keepOff_eq]; exact off_even (part s) (rnd s).succ _

theorem land_words (s : Fin 20) : (landM.slice (rL s) (fun _ => rfl)).view.WordExact :=
  View.wordExact_slice_whole cc0_scratch0 rfl (rL s) (Nat.le_refl 2) rfl (slot_even s) (len_even s)
theorem stage_words (s : Fin 20) : (stageM.slice (rL s) (fun _ => rfl)).view.WordExact :=
  View.wordExact_slice_whole cc0_scratch1 rfl (rL s) (Nat.le_refl 2) rfl (slot_even s) (len_even s)
theorem gath_words (s : Fin 20) (c : Dev nD) : (gathM.slice (rS s c) (fun _ => rfl)).view.WordExact :=
  View.wordExact_slice_whole cc0_scratch2 rfl (rS s c) (Nat.le_refl 2) rfl (sendOff_even s c) (len_even s)
theorem stage_exact (s : Fin 20) : (stageM.access (rL s)).StoreExact Finset.univ :=
  View.storeExact_slice_whole cc0_scratch1 rfl (rL s) (Nat.le_refl 2) rfl (slot_even s) (len_even s)
theorem gath_exact (s : Fin 20) (c : Dev nD) : (gathM.access (rK s c)).StoreExact Finset.univ :=
  View.storeExact_slice_whole cc0_scratch2 rfl (rK s c) (Nat.le_refl 2) rfl (keepOff_even s c) (len_even s)

/-! ## The values stored -/

theorem same (n : ℕ) : (Sh n).ShapeCasts (Sh n) := rfl

/-- Rows narrowed, -/
def narV {n : ℕ} (v : Vec F (Sh n) .f32) : FVec F (Sh n) .bf16 :=
  shapeCast (Sh n) (truncf .bf16 (shapeCast (Sh n) v (same n)) (by decide)) (same n)
/-- rows with others added, -/
def addV {n : ℕ} (v : Vec F (Sh n) .f32) (w : Vec F (Sh n) .bf16) : FVec F (Sh n) .f32 :=
  addf (shapeCast (Sh n) v (same n)) (extf .f32 w (by decide))
/-- rows widened, -/
def extV {n : ℕ} (w : Vec F (Sh n) .bf16) : FVec F (Sh n) .f32 := extf .f32 w (by decide)
/-- the function of rows, -/
def actV {n : ℕ} (v : Vec F (Sh n) .f32) : FVec F (Sh n) .f32 :=
  let u : FVec F (Sh n) .f32 := shapeCast (Sh n) v (same n)
  let p : FVec F (Sh n) .f32 := maximumf u (broadcast (Sh n) (Scalar.ofBits .f32 0x00000000#32 : F .f32))
  addf (mulf (mulf (tanh u) u) u) (mulf (mulf p p) p)
/-- it narrowed. -/
def actN {n : ℕ} (v : Vec F (Sh n) .f32) : FVec F (Sh n) .bf16 :=
  shapeCast (Sh n) (truncf .bf16 (actV v) (by decide)) (same n)

/-! ## The steps -/

abbrev Step := Prog (TpuEff nD τ sig (Elt F) Λ₀ .tc) PUnit

/-- Copy the rows of reducing transfer `s`, narrowed, into its staging slot and send them to the peer's landing slot. -/
def sendRow (s : Fin 20) (c : Dev nD) (d : Dev nD) : Step (F := F) := do
  let v ← Prog.lift (.load outM (rS s c).toLoadRect (View.loadsAt_vmem (len_pos s)))
  let _ ← Prog.lift (.load stageM (rL s).toLoadRect (View.loadsAt_vmem (len_pos s)))
  Prog.lift (.store stageM (rL s) (narV v) Finset.univ (View.stores_vmem (len_pos s) (stage_exact s) (fun _ => rfl)) (.inl rfl))
  Prog.lift (.enqueueDma (stageM.slice (rL s) (fun _ => rfl)) (.remote (Dev.tc d) (landM.slice (rL s) (fun _ => rfl)) (.dma (sndS s)))
    (.dma (rcvS s)) (stage_words s) (land_words s) ⟨⟨rfl, Or.inl rfl⟩, trivial⟩)

/-- Wait until reducing transfer `s` has left and its counterpart has come, and add what came to the rows kept. -/
def recvRow (s : Fin 20) (c : Dev nD) : Step (F := F) := do
  Prog.lift (.waitDma2 (sndS s) (landM.slice (rL s) (fun _ => rfl)) (stageM.slice (rL s) (fun _ => rfl)) (land_words s) (stage_words s))
  Prog.lift (.waitDma2 (rcvS s) (stageM.slice (rL s) (fun _ => rfl)) (landM.slice (rL s) (fun _ => rfl)) (stage_words s) (land_words s))
  let v ← Prog.lift (.load outM (rK s c).toLoadRect (View.loadsAt_vmem (len_pos s)))
  let w ← Prog.lift (.load landM (rL s).toLoadRect (View.loadsAt_vmem (len_pos s)))
  let _ ← Prog.lift (.load outM (rK s c).toLoadRect (View.loadsAt_vmem (len_pos s)))
  Prog.lift (.store outM (rK s c) (addV v w) Finset.univ (View.stores_vmem_bits_univ (len_pos s) rfl) (.inl rfl))

/-- Apply the function to the rows kept at transfer `s`, in place, and put them narrowed among the gathered rows. -/
def actRow (s : Fin 20) (c : Dev nD) : Step (F := F) := do
  let v ← Prog.lift (.load outM (rK s c).toLoadRect (View.loadsAt_vmem (len_pos s)))
  let _ ← Prog.lift (.load outM (rK s c).toLoadRect (View.loadsAt_vmem (len_pos s)))
  Prog.lift (.store outM (rK s c) (actV v) Finset.univ (View.stores_vmem_bits_univ (len_pos s) rfl) (.inl rfl))
  let _ ← Prog.lift (.load gathM (rK s c).toLoadRect (View.loadsAt_vmem (len_pos s)))
  Prog.lift (.store gathM (rK s c) (actN v) Finset.univ (View.stores_vmem (len_pos s) (gath_exact s c) (fun _ => rfl)) (.inl rfl))

/-- Send the gathered rows of transfer `s` to the same rows of the peer. -/
def sendGath (s : Fin 20) (c : Dev nD) (d : Dev nD) : Step (F := F) :=
  Prog.lift (.enqueueDma (gathM.slice (rS s c) (fun _ => rfl)) (.remote (Dev.tc d) (gathM.slice (rS s c) (fun _ => rfl)) (.dma (sndS s)))
    (.dma (rcvS s)) (gath_words s c) (gath_words s c) ⟨⟨rfl, Or.inl rfl⟩, trivial⟩)

/-- Wait until gathering transfer `s` has left and its counterpart has come, and widen what came into the result. -/
def recvGath (s : Fin 20) (c : Dev nD) : Step (F := F) := do
  Prog.lift (.waitDma2 (sndS s) (gathM.slice (rS s c) (fun _ => rfl)) (gathM.slice (rS s c) (fun _ => rfl)) (gath_words s c) (gath_words s c))
  Prog.lift (.waitDma2 (rcvS s) (gathM.slice (rS s c) (fun _ => rfl)) (gathM.slice (rS s c) (fun _ => rfl)) (gath_words s c) (gath_words s c))
  let v ← Prog.lift (.load gathM (rK s c).toLoadRect (View.loadsAt_vmem (len_pos s)))
  let _ ← Prog.lift (.load outM (rK s c).toLoadRect (View.loadsAt_vmem (len_pos s)))
  Prog.lift (.store outM (rK s c) (extV v) Finset.univ (View.stores_vmem_bits_univ (len_pos s) rfl) (.inl rfl))

theorem sendDev_lt (s : Fin 20) (c : Dev nD) : sendDev s c < nD := by rw [sendDev_eq]; exact (peer s c).isLt
theorem sigDev_lt (j : Fin 5) (c : Dev nD) : sigDev j c < nD := by rw [sigDev_eq]; exact (pr j c).isLt

/-- A round of the reducing phase: transfer `s` of half 0 and `s'` of half 1. -/
def roundRow (s s' : Fin 20) (c : Dev nD) : Step (F := F) := do
  sendRow s c ⟨sendDev s c, sendDev_lt s c⟩
  sendRow s' c ⟨sendDev s' c, sendDev_lt s' c⟩
  recvRow s c
  recvRow s' c
/-- A round of the gathering phase. -/
def roundGath (s s' : Fin 20) (c : Dev nD) : Step (F := F) := do
  sendGath s c ⟨sendDev s c, sendDev_lt s c⟩
  sendGath s' c ⟨sendDev s' c, sendDev_lt s' c⟩
  recvGath s c
  recvGath s' c

/-- The barrier, the copy of the argument into the result buffer, five rounds of summing, the function, five rounds of
    gathering. -/
def prog (c : Dev nD) : Step (F := F) := do
  semSignalWord (⟨sigDev 0 c, sigDev_lt 0 c⟩ : Dev nD) barS 1#32
  semSignalWord (⟨sigDev 1 c, sigDev_lt 1 c⟩ : Dev nD) barS 1#32
  semSignalWord (⟨sigDev 2 c, sigDev_lt 2 c⟩ : Dev nD) barS 1#32
  semSignalWord (⟨sigDev 3 c, sigDev_lt 3 c⟩ : Dev nD) barS 1#32
  semSignalWord (⟨sigDev 4 c, sigDev_lt 4 c⟩ : Dev nD) barS 1#32
  semWaitWord barS 5#32
  let v ← Prog.lift (.load xM rW.toLoadRect (View.loadsAt_vmem whole_pos))
  let _ ← Prog.lift (.load outM rW.toLoadRect (View.loadsAt_vmem whole_pos))
  Prog.lift (.store outM rW (shapeCast (Sh 2048) (v : Vec F (Sh 2048) .f32) (same 2048)) Finset.univ (View.stores_vmem_bits_univ whole_pos rfl) (.inl rfl))
  roundRow 0 10 c
  roundRow 1 11 c
  roundRow 2 12 c
  roundRow 3 13 c
  roundRow 4 14 c
  actRow 4 c
  actRow 14 c
  roundGath 9 19 c
  roundGath 8 18 c
  roundGath 7 17 c
  roundGath 6 16 c
  roundGath 5 15 c

set_option maxHeartbeats 4000000 in
set_option maxRecDepth 65536 in
/-- The kernel's body is that program at its device. -/
theorem body_eq : cc0_body (F := F) xM (Memref.isWhole_whole _) outM (Memref.isWhole_whole _) landM (Memref.isWhole_whole _)
    stageM (Memref.isWhole_whole _) gathM (Memref.isWhole_whole _) cc0_scratch3 cc0_scratch4
    = Prog.lift .deviceId >>= fun c => prog c := by
  rw [cc0_body_eq_skeleton]
  unfold cc0_body_skel prog roundRow roundGath sendRow recvRow actRow sendGath recvGath
  simp only [
    k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton,
    k0_part1_skel, k0_part2_skel, k0_part3_skel, k0_part4_skel, k0_part5_skel, k0_part6_skel, k0_part7_skel, k0_part8_skel, k0_part9_skel,
    k0_part10_skel, k0_part11_skel, k0_part12_skel, k0_part13_skel, k0_part14_skel, k0_part15_skel, k0_part16_skel, k0_part17_skel,
    k0_part18_skel, k0_part19_skel, k0_part20_skel, k0_part21_skel, k0_part22_skel, k0_part23_skel, k0_part24_skel, k0_part25_skel,
    k0_part26_skel, k0_part27_skel,
    semSignalWord, semWaitWord, Prog.lift, Prog.bind_op, Prog.bind_ret, Prog.pure_eq_ret]
  rfl

end Cert.KernelIdealProof

end
-- ==== Proof.KernelIdealSteps.lean ====
/-
  Each kind of step, run from what a device holds before it to what it holds after.
-/
module

public import proofs.«01_k».proof.Proof.Updates
public import proofs.«01_k».proof.Proof.KernelIdealProg
public import Idealize.ShloMosaic.Lib.Pointwise.Reshape

@[expose] public section

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What a device holds -/

/-- All cells' invariants, under the names they were allocated at, and that each is at round 0 or later. -/
def records (K : Dev nD × Ce → ℕ) : sProp 𝕄 :=
  bigSep Finset.univ fun ck => iprop(cellInv ER (sched m ρ) (K ck) (kcell ck) ∗ reached ER (kcell ck) 0)

instance records_persistent (K : Dev nD × Ce → ℕ) : BI.Persistent (records m ρ K) := by unfold records; infer_instance

theorem record (K : Dev nD × Ce → ℕ) (c : Dev nD) (k : Ce) :
    records m ρ K ⊢ iprop(cellInv ER (sched m ρ) (K (c, k)) (kcell (c, k)) ∗ reached ER (kcell (c, k)) 0) :=
  bigSep_elim (Finset.mem_univ (c, k))

/-- What a device owes for the transfers of `l`, whatever waits it has recorded. -/
def owesE (c : Dev nD) (l : List (Fin 20)) : sProp 𝕄 := iprop(∃ W, owes (c : Thread nD τ) (owed c l) W)

/-- Its positions at a transfer's two cells, and the right to wait on the receiving one. -/
def mark (s : Fin 20) (c : Dev nD) : sProp 𝕄 :=
  iprop(atPos ER (sendCell s c) 0 ∅ 0 ∗ atPos ER (recvCell s c) 0 ∅ 0 ∗ cred (tallyAt (recvCell s c) () (units s)))
/-- The rows it stages a reducing transfer in. -/
def own (s : Fin 20) (c : Dev nD) : sProp 𝕄 := if gat s then iprop(emp) else iprop(∃ f, stageAt c (slot s) (len s) f)
/-- The tokens of a transfer's two duties. -/
def toks (s : Fin 20) (c : Dev nD) : sProp 𝕄 := iprop(dutyTok ER (sendCell s c) 0 0 ∗ dutyTok ER (recvCell s (peer s c)) 0 0)
/-- Before a transfer, -/
def ready (s : Fin 20) (c : Dev nD) : sProp 𝕄 := iprop(mark s c ∗ toks s c ∗ place s (peer s c) ∗ own s c)
/-- with it under way, -/
def flying (s : Fin 20) (c : Dev nD) : sProp 𝕄 := iprop(mark s c ∗ cred (tallyAt (sendCell s c) () (units s)))
/-- and after it. -/
def done (s : Fin 20) (c : Dev nD) : sProp 𝕄 :=
  iprop(semVal (sendCell s c) 0 ∗ semVal (recvCell s c) 0 ∗ own s c ∗ if gat s then iprop(emp) else iprop(∃ f, landAt c (slot s) (len s) f))

/-- The result buffer, each half after `k` of its steps. -/
def outSt (c : Dev nD) (k : Fin 2 → ℕ) : sProp 𝕄 :=
  iprop(∃ f : (Sh 2048).Idx → F .f32, ⌜∀ p, Holds (xs m ρ) p (k p) c f⌝ ∗ (((c : Thread nD τ).loc cc0_stg1_0) ↦{fullShare} f))
/-- The gathered rows of half `p` that the device and those it has gathered from kept before round `r`. -/
def gathSt (c : Dev nD) (p : Fin 2) (r : ℕ) : sProp 𝕄 := gathAt c (off p r c) (sz r) (gathered (xs m ρ))

/-! ## Reading and writing blocks of rows -/

section Access
omit [FloatOps F]

theorem read_block (b : Ref sig .tc) (r : Rect b.ty.shape) (f : b.ty.Contents (Elt F)) (j : r.shape.Idx) :
    (Memref.whole b).view.readAt (Elt F) r.toLoadRect f j = f (r.emb j) := rfl
theorem write_block (b : Ref sig .tc) (r : Rect b.ty.shape) (f : b.ty.Contents (Elt F)) (w : r.shape.Idx → Elt F b.ty.elt) (j : r.shape.Idx) :
    ((Memref.whole b).access r).write (Elt F) f w Finset.univ (r.emb j) = w j :=
  View.write_emb_of_mem (v := (Memref.whole b).access r) f w (x := j) (Finset.mem_univ j)
theorem write_outside (b : Ref sig .tc) (r : Rect b.ty.shape) (f : b.ty.Contents (Elt F)) (w : r.shape.Idx → Elt F b.ty.elt) {i : b.ty.Idx}
    (h : i ∉ r.set) : ((Memref.whole b).access r).write (Elt F) f w Finset.univ i = f i :=
  View.write_of_not_mem (v := (Memref.whole b).access r) f w Finset.univ (by
    rw [View.setOn_univ]; intro hm; exact h (by rwa [show ((Memref.whole b).access r).set = r.set from View.set_slice_whole b r] at hm))

theorem set_block (b : Ref sig .tc) (r : Rect b.ty.shape) : ((Memref.whole b).access r).set = r.set := View.set_slice_whole b r
theorem load_block (b : Ref sig .tc) (r : Rect b.ty.shape) : (Memref.whole b).view.setOn r.set = r.set := by
  show r.set.map (Function.Embedding.refl _) = r.set; exact Finset.map_refl

theorem rS_set (s : Fin 20) (c : Dev nD) : (rS s c).set = rows 2048 (off (part s) (rnd s + 1) (if gat s then c else peer s c)) (len s) :=
  rect_set (sendOff_eq s c) (sendOff_inb s c)
theorem rK_set (s : Fin 20) (c : Dev nD) : (rK s c).set = rows 2048 (off (part s) (rnd s + 1) (if gat s then peer s c else c)) (len s) :=
  rect_set (keepOff_eq s c) (keepOff_inb s c)
theorem rL_set (s : Fin 20) : (rL s).set = rows 1984 (slot s) (len s) := rect_set rfl (slot_inb s)
theorem rS_places (s : Fin 20) (c : Dev nD) : Places (rS s c).emb (off (part s) (rnd s + 1) (if gat s then c else peer s c)) :=
  rect_places (sendOff_eq s c) (sendOff_inb s c)
theorem rK_places (s : Fin 20) (c : Dev nD) : Places (rK s c).emb (off (part s) (rnd s + 1) (if gat s then peer s c else c)) :=
  rect_places (keepOff_eq s c) (keepOff_inb s c)
theorem rL_places (s : Fin 20) : Places (rL s).emb (slot s) := rect_places rfl (slot_inb s)

end Access

section Values

theorem narV_apply {n : ℕ} (v : Vec F (Sh n) .f32) (j) : narV v j = nar (v j) := by
  unfold narV; rw [shapeCast_id, shapeCast_id]; rfl
theorem addV_apply {n : ℕ} (v : Vec F (Sh n) .f32) (w : Vec F (Sh n) .bf16) (j) : addV v w j = FloatOps.addf (v j) (wid (w j)) := by
  unfold addV; rw [shapeCast_id]; rfl
theorem extV_apply {n : ℕ} (w : Vec F (Sh n) .bf16) (j) : extV w j = wid (w j) := rfl
theorem actV_apply {n : ℕ} (v : Vec F (Sh n) .f32) (j) : actV v j = act (v j) := by
  unfold actV; rw [shapeCast_id]; rfl
theorem actN_apply {n : ℕ} (v : Vec F (Sh n) .f32) (j) : actN v j = nar (actV v j) := by
  unfold actN; rw [shapeCast_id]; rfl

end Values

/-! ## The steps -/

section Steps
variable (K : Dev nD × Ce → ℕ) {s : Fin 20} {c : Dev nD}

/-- Sending: the rows sent from return with the sending cell's unit, those written go with the receiving cell's. -/
theorem wp_put (l : List (Fin 20)) {d : Dev nD} (hd : d = peer s c) {src dst : Memref sig .tc .vmem (Sh (len s)) .bf16}
    {hsc : (dst : Memref sig (Dev.tc d : Thread nD τ).2.kind .vmem (Sh (len s)) .bf16).view.ref.isScScratch = false}
    {hsrc : src.view.WordExact} {hdst : dst.view.WordExact}
    {hsem : DmaTarget.Typed .vmem (.dma (rcvS s)) (.remote (Dev.tc d : Thread nD τ) dst (.dma (sndS s)) hsc)}
    {α : Type} {Q : α → sProp 𝕄} {k : PUnit → Prog (TpuEff nD τ sig (Elt F) Λ₀ .tc) α} (fs : Buf (Elt F) (src.view.loc (c : Thread nD τ)))
    (fd : Buf (Elt F) (dst.view.loc (peer s c : Thread nD τ)))
    (Ss : Finset (Idx (src.view.loc (c : Thread nD τ)))) (Sd : Finset (Idx (dst.view.loc (peer s c : Thread nD τ))))
    (hSs : src.view.set = Ss) (hSd : dst.view.set = Sd)
    (hpay₁ : (src.view.loc (c : Thread nD τ) ↦[Ss]{fullShare} fs) ⊢ (sendPay m ρ s c : sProp 𝕄))
    (hpay₂ : (dst.view.loc (peer s c : Thread nD τ) ↦[Sd]{fullShare} (dst.view.write (Elt F) fd (src.view.read (Elt F) fs) Finset.univ))
      ⊢ (recvPay m ρ s (peer s c) : sProp 𝕄)) :
    iprop(records m ρ K ∗ (src.view.loc (c : Thread nD τ) ↦[Ss]{fullShare} fs)
        ∗ (dst.view.loc (peer s c : Thread nD τ) ↦[Sd]{fullShare} fd) ∗ owesE c (s :: l) ∗ toks s c)
      ⊢ iprop(((cred (tallyAt (sendCell s c) () (units s)) ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma (sndS s)) hsc) (.dma (rcvS s)) hsrc hdst hsem) k) Q) := by
  subst hd hSs hSd
  unfold owesE toks
  iintro ⟨#HR, Hs, Hd, ⟨%W, HO⟩, Ht, Ht'⟩ Hk
  ihave #⟨HI, Hr⟩ := (record m ρ K c (.inr (.inl s))) $$ HR
  ihave #⟨HI', Hr'⟩ := (record m ρ K (peer s c) (.inr (.inr s))) $$ HR
  iapply (Rounds.wp_send_pointsTo 𝒱₀ ER (sched m ρ) (c : Thread nD τ) none (κ₁ := K (c, .inr (.inl s))) (κ₂ := K (peer s c, .inr (.inr s)))
    (r₁ := 0) (r₂ := 0) (d₁ := 0) (d₂ := 0) (fs := fs) (fd := fd)
    (by rw [duties_send]; exact Finset.mem_singleton_self _) (by rw [duties_recv]; exact Finset.mem_singleton_self _)
    () () (units s) rfl (amount_send m ρ c s 0) (amount_recv m ρ (peer s c) s 0) (owed c l) rfl (W := W)
    (by rw [payload_send]; exact hpay₁) (by rw [payload_recv]; exact hpay₂)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- Waiting for both ends of a transfer: what they hand over, and both cells closed. -/
theorem wp_both (l : List (Fin 20)) (hl : ∀ s' ∈ l, phase s < phase s') {a b a' b' : Memref sig .tc .vmem (Sh (len s)) .bf16}
    {h1 : a.view.WordExact} {h2 : b.view.WordExact} {h1' : a'.view.WordExact} {h2' : b'.view.WordExact}
    {α : Type} {Q : α → sProp 𝕄} {k : PUnit → Prog (TpuEff nD τ sig (Elt F) Λ₀ .tc) α} :
    iprop(records m ρ K ∗ levAts L lv ∗ flying s c ∗ owesE c l)
      ⊢ iprop(((semVal (sendCell s c) 0 ∗ semVal (recvCell s c) 0 ∗ sendPay m ρ s c ∗ recvPay m ρ s c ∗ owesE c l)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sndS s) a b h1 h2) fun _ => .op (.waitDma2 (rcvS s) a' b' h1' h2') k) Q) := by
  unfold owesE flying mark
  iintro ⟨#HR, #Hlev, ⟨⟨HaS, HaR, HcR⟩, HcS⟩, ⟨%W, HO⟩⟩ Hk
  ihave #⟨HI, -⟩ := (record m ρ K c (.inr (.inl s))) $$ HR
  ihave #⟨HI', -⟩ := (record m ρ K c (.inr (.inr s))) $$ HR
  iapply (Rounds.wp_wait_rest_token 𝒱₀ ER (sched m ρ) (c : Thread nD τ) none (κ := K (c, .inr (.inl s)))
      (wpE_waitDma2_eq 𝒱₀ (c : Thread nD τ) none Set.univ) (Set.mem_univ _) () (O := owed c l) (W := W) (R := 0) (m := 0) (T := ∅)
      (by rw [Nat.zero_add]; exact (expect_send m ρ c s).symm)) $$ [HcS HO HaS]
  · isplitr; · iexact HI
    isplitl [HcS]; · iexact HcS
    isplitl [HO]; · iexact HO
    isplitr
    · iapply (mayWait c (.dma (sndS s)) l (fun s' _ => by rw [lv_send]; exact Nat.lt_trans Nat.zero_lt_one (phase_pos s'))); iexact Hlev
    iexact HaS
  iintro ⟨HO, HaS, -, HpS⟩
  ihave HpS := (Entails.of_eq (rest_send m ρ c s)) $$ HpS
  iapply (Rounds.wp_wait_rest_token 𝒱₀ ER (sched m ρ) (c : Thread nD τ) none (κ := K (c, .inr (.inr s)))
      (wpE_waitDma2_eq 𝒱₀ (c : Thread nD τ) none Set.univ) (Set.mem_univ _) () (O := owed c l) (R := 0) (m := 0) (T := ∅)
      (by rw [Nat.zero_add]; exact (expect_recv m ρ c s).symm)) $$ [HcR HO HaR]
  · isplitr; · iexact HI'
    isplitl [HcR]; · iexact HcR
    isplitl [HO]; · iexact HO
    isplitr
    · iapply (mayWait c (.dma (rcvS s)) l (fun s' h => by rw [lv_recv]; exact hl s' h)); iexact Hlev
    iexact HaR
  iintro ⟨HO, HaR, -, HpR⟩
  ihave HpR := (Entails.of_eq (rest_recv m ρ c s)) $$ HpR
  imod (Rounds.cell_close ER (sched m ρ) (Set.mem_univ (K (c, .inr (.inl s)))) (fun h => h) (R := 0 + 1) (duties_later m ρ (sendCell s c))) $$ [HaS] with HzS
  · isplitr; · iexact HI
    iexact HaS
  imod (Rounds.cell_close ER (sched m ρ) (Set.mem_univ (K (c, .inr (.inr s)))) (fun h => h) (R := 0 + 1) (duties_later m ρ (recvCell s c))) $$ [HaR] with HzR
  · isplitr; · iexact HI'
    iexact HaR
  iapply Hk
  isplitl [HzS]; · iexact HzS
  isplitl [HzR]; · iexact HzR
  isplitl [HpS]; · iexact HpS
  isplitl [HpR]; · iexact HpR
  iexists _; iexact HO

/-- A reducing transfer staged and sent. -/
theorem wp_sendRow (hs : gat s = false) (l : List (Fin 20)) (kk : Fin 2 → ℕ) (hk : kk (part s) = rnd s) {d : Dev nD} (hd : d = peer s c)
    {α : Type} {Q : α → sProp 𝕄} {k : PUnit → Prog (TpuEff nD τ sig (Elt F) Λ₀ .tc) α} :
    iprop(records m ρ K ∗ ready s c ∗ owesE c (s :: l) ∗ outSt m ρ c kk)
      ⊢ iprop(((flying s c ∗ owesE c l ∗ outSt m ρ c kk) -∗ wp frame (wpE (defs₀ (F := F)) 𝒱₀ (c : Thread nD τ) none) Set.univ (k ⟨⟩) Q)
          -∗ wp frame (wpE (defs₀ (F := F)) 𝒱₀ (c : Thread nD τ) none) Set.univ (sendRow s c d >>= k) Q) := by
  have hS : Places (rS s c).emb (off (part s) (rnd s + 1) (peer s c)) := by
    have h := rS_places s c; rwa [hs, if_neg Bool.false_ne_true] at h
  unfold sendRow ready flying own place outSt landAt stageAt
  simp only [hs, Bool.false_eq_true, if_false, Prog.lift, Prog.bind_op, Prog.bind_ret]
  iintro ⟨#HR, ⟨Hm, Ht, ⟨%fd, Hd⟩, ⟨%fg, Hg⟩⟩, HO, ⟨%f, %hf, Hout⟩⟩ Hk
  iapply (wp_load 𝒱₀ (c : Thread nD τ) none Set.univ (m := outM) (Finset.subset_univ _)) $$ Hout; iintro Hout
  iapply (wp_load 𝒱₀ (c : Thread nD τ) none Set.univ (m := stageM) (Finset.Subset.trans (load_block _ _).subset (rL_set s).subset)) $$ Hg; iintro Hg
  iapply (wp_store 𝒱₀ (c : Thread nD τ) none Set.univ (m := stageM) (r := rL s) (Mk := Finset.univ)
    (Finset.Subset.trans (set_block _ _).subset (rL_set s).subset)) $$ Hg; iintro Hg
  have hst := step_stage (xs m ρ) s c (f := f) (by have := hf (part s); rwa [hk] at this) hS (rL_places s)
    (g := (stageM.access (rL s)).write (Elt F) fg (narV (outM.view.readAt (Elt F) (rS s c).toLoadRect f)) Finset.univ)
    (fun j => (write_block cc0_scratch1 (rL s) fg _ j).trans (narV_apply _ j))
  have hpay₁ : ((((c : Thread nD τ).loc cc0_scratch1) ↦[rows 1984 (slot s) (len s)]{fullShare}
      ((stageM.access (rL s)).write (Elt F) fg (narV (outM.view.readAt (Elt F) (rS s c).toLoadRect f)) Finset.univ)) : sProp 𝕄) ⊢ sendPay m ρ s c := by
    unfold sendPay stageAt; rw [hs, if_neg Bool.false_ne_true]; iintro H; iexists _; iexact H
  have hpay₂ : ((((peer s c : Dev nD) : Thread nD τ).loc cc0_scratch0) ↦[rows 1984 (slot s) (len s)]{fullShare}
      ((landM.access (rL s)).write (Elt F) fd ((stageM.access (rL s)).read (Elt F)
        ((stageM.access (rL s)).write (Elt F) fg (narV (outM.view.readAt (Elt F) (rS s c).toLoadRect f)) Finset.univ)) Finset.univ) : sProp 𝕄)
      ⊢ recvPay m ρ s (peer s c) := by
    unfold recvPay landAt
    rw [hs, if_neg Bool.false_ne_true, peer_peer]
    refine Entails.of_eq (pointsTo_congr fun i hi => ?_)
    obtain ⟨j, rfl⟩ := (rL_places s).surj hi
    exact (write_block cc0_scratch0 (rL s) fd _ j).trans (hst _ hi)
  iapply (wp_put m ρ K l hd (src := stageM.slice (rL s) (fun _ => rfl)) (dst := landM.slice (rL s) (fun _ => rfl)) _ fd
    (rows 1984 (slot s) (len s)) (rows 1984 (slot s) (len s))
    ((set_block cc0_scratch1 _).trans (rL_set s)) ((set_block cc0_scratch0 _).trans (rL_set s)) hpay₁ hpay₂) $$ [Hg Hd HO Ht]
  · isplitr; · iexact HR
    isplitl [Hg]; · iexact Hg
    isplitl [Hd]; · iexact Hd
    isplitl [HO] <;> iassumption
  iintro ⟨Hc, HO⟩
  iapply Hk
  isplitl [Hm Hc]
  · isplitl [Hm] <;> iassumption
  isplitl [HO]; · iexact HO
  iexists f
  isplitr; · ipureintro; exact hf
  iexact Hout

/-- A reducing transfer awaited and what it brought added. -/
theorem wp_recvRow (hs : gat s = false) (l : List (Fin 20)) (hl : ∀ s' ∈ l, phase s < phase s') (kk : Fin 2 → ℕ)
    (hk : kk (part s) = rnd s) (hk' : ∀ p, kk p ≤ 11)
    {α : Type} {Q : α → sProp 𝕄} {k : PUnit → Prog (TpuEff nD τ sig (Elt F) Λ₀ .tc) α} :
    iprop(records m ρ K ∗ levAts L lv ∗ flying s c ∗ owesE c l ∗ outSt m ρ c kk)
      ⊢ iprop(((done s c ∗ owesE c l ∗ outSt m ρ c (Function.update kk (part s) (rnd s + 1)))
            -∗ wp frame (wpE (defs₀ (F := F)) 𝒱₀ (c : Thread nD τ) none) Set.univ (k ⟨⟩) Q)
          -∗ wp frame (wpE (defs₀ (F := F)) 𝒱₀ (c : Thread nD τ) none) Set.univ (recvRow s c >>= k) Q) := by
  have hK : Places (rK s c).emb (off (part s) (rnd s + 1) c) := by
    have h := rK_places s c; rwa [hs, if_neg Bool.false_ne_true] at h
  have hKs : (rK s c).set = rows 2048 (off (part s) (rnd s + 1) c) (len s) := by
    have h := rK_set s c; rwa [hs, if_neg Bool.false_ne_true] at h
  unfold recvRow outSt
  simp only [Prog.lift, Prog.bind_op, Prog.bind_ret]
  iintro ⟨#HR, #Hlev, Hf, HO, ⟨%f, %hf, Hout⟩⟩ Hk
  iapply (wp_both m ρ K l hl) $$ [Hf HO]
  · isplitr; · iexact HR
    isplitr; · iexact Hlev
    isplitl [Hf] <;> iassumption
  iintro ⟨HzS, HzR, Hst, Hld, HO⟩
  unfold recvPay sendPay landAt
  simp only [hs, Bool.false_eq_true, if_false]
  iapply (wp_load 𝒱₀ (c : Thread nD τ) none Set.univ (m := outM) (Finset.subset_univ _)) $$ Hout; iintro Hout
  iapply (wp_load 𝒱₀ (c : Thread nD τ) none Set.univ (m := landM) (Finset.Subset.trans (load_block _ _).subset (rL_set s).subset)) $$ Hld; iintro Hld
  iapply (wp_load 𝒱₀ (c : Thread nD τ) none Set.univ (m := outM) (Finset.subset_univ _)) $$ Hout; iintro Hout
  iapply (wp_store 𝒱₀ (c : Thread nD τ) none Set.univ (m := outM) (r := rK s c) (Mk := Finset.univ) (Finset.subset_univ _)) $$ Hout; iintro Hout
  iapply Hk
  isplitl [HzS HzR Hst Hld]
  · unfold done own landAt
    simp only [hs, Bool.false_eq_true, if_false]
    isplitl [HzS]; · iexact HzS
    isplitl [HzR]; · iexact HzR
    isplitl [Hst]; · iexact Hst
    iexists _; iexact Hld
  isplitl [HO]; · iexact HO
  iexists _
  isplitr
  · ipureintro
    exact step_add (xs m ρ) s c hk hk' hf hK (rL_places s)
      (w := landM.view.readAt (Elt F) (rL s).toLoadRect (staged (xs m ρ) s (peer s c))) (fun j => rfl)
      (fun j => (write_block cc0_stg1_0 (rK s c) f _ j).trans (addV_apply (outM.view.readAt (Elt F) (rK s c).toLoadRect f)
        (landM.view.readAt (Elt F) (rL s).toLoadRect (staged (xs m ρ) s (peer s c))) j))
      (fun i hi => write_outside cc0_stg1_0 (rK s c) f _ (by rwa [hKs]))
  iexact Hout

/-- The function applied to the rows kept at the end, which start the gathered rows. -/
theorem wp_actRow (hs : gat s = false) (hr : rnd s = 4) (kk : Fin 2 → ℕ) (hk : kk (part s) = 5) (hk' : ∀ p, kk p ≤ 11)
    {α : Type} {Q : α → sProp 𝕄} {k : PUnit → Prog (TpuEff nD τ sig (Elt F) Λ₀ .tc) α} :
    iprop((∃ g, gathAt c (mine s c) (len s) g) ∗ outSt m ρ c kk)
      ⊢ iprop(((gathSt m ρ c (part s) (rnd s + 1) ∗ outSt m ρ c (Function.update kk (part s) 6))
            -∗ wp frame (wpE (defs₀ (F := F)) 𝒱₀ (c : Thread nD τ) none) Set.univ (k ⟨⟩) Q)
          -∗ wp frame (wpE (defs₀ (F := F)) 𝒱₀ (c : Thread nD τ) none) Set.univ (actRow s c >>= k) Q) := by
  have hK : Places (rK s c).emb (off (part s) (rnd s + 1) c) := by
    have h := rK_places s c; rwa [hs, if_neg Bool.false_ne_true] at h
  have hKs : (rK s c).set = rows 2048 (mine s c) (len s) := by
    have h := rK_set s c; rwa [hs, if_neg Bool.false_ne_true] at h
  unfold actRow outSt gathSt gathAt
  simp only [Prog.lift, Prog.bind_op, Prog.bind_ret]
  iintro ⟨⟨%g, Hg⟩, ⟨%f, %hf, Hout⟩⟩ Hk
  have hstep := step_act (xs m ρ) s c hr (f := f)
    (f' := (outM.access (rK s c)).write (Elt F) f (actV (outM.view.readAt (Elt F) (rK s c).toLoadRect f)) Finset.univ) hk hk' hf hK
    (fun j => (write_block cc0_stg1_0 (rK s c) f _ j).trans (actV_apply (outM.view.readAt (Elt F) (rK s c).toLoadRect f) j))
    (fun i hi => write_outside cc0_stg1_0 (rK s c) f _ (by rw [hKs]; exact hi))
  iapply (wp_load 𝒱₀ (c : Thread nD τ) none Set.univ (m := outM) (Finset.subset_univ _)) $$ Hout; iintro Hout
  iapply (wp_load 𝒱₀ (c : Thread nD τ) none Set.univ (m := outM) (Finset.subset_univ _)) $$ Hout; iintro Hout
  iapply (wp_store 𝒱₀ (c : Thread nD τ) none Set.univ (m := outM) (r := rK s c) (Mk := Finset.univ) (Finset.subset_univ _)) $$ Hout; iintro Hout
  iapply (wp_load 𝒱₀ (c : Thread nD τ) none Set.univ (m := gathM) (Finset.Subset.trans (load_block _ _).subset hKs.subset)) $$ Hg; iintro Hg
  iapply (wp_store 𝒱₀ (c : Thread nD τ) none Set.univ (m := gathM) (r := rK s c) (Mk := Finset.univ)
    (Finset.Subset.trans (set_block _ _).subset hKs.subset)) $$ Hg; iintro Hg
  iapply Hk
  isplitl [Hg]
  · have e : ((((c : Thread nD τ).loc cc0_scratch2) ↦[rows 2048 (mine s c) (len s)]{fullShare}
        ((gathM.access (rK s c)).write (Elt F) g (actN (outM.view.readAt (Elt F) (rK s c).toLoadRect f)) Finset.univ)) : sProp 𝕄)
        = (((c : Thread nD τ).loc cc0_scratch2) ↦[rows 2048 (off (part s) (rnd s + 1) c) (sz (rnd s + 1))]{fullShare} (gathered (xs m ρ))) := by
      refine pointsTo_congr fun i hi => ?_
      obtain ⟨j, rfl⟩ := hK.surj hi
      refine (write_block cc0_scratch2 (rK s c) g _ j).trans ?_
      rw [← hstep.2 j]
      exact (actN_apply (outM.view.readAt (Elt F) (rK s c).toLoadRect f) j).trans
        (congrArg nar (write_block cc0_stg1_0 (rK s c) f (actV (outM.view.readAt (Elt F) (rK s c).toLoadRect f)) j).symm)
    iapply (Entails.of_eq e); iexact Hg
  iexists _
  isplitr; · ipureintro; exact hstep.1
  iexact Hout

/-- A gathering transfer sent. -/
theorem wp_sendGath (hs : gat s = true) (l : List (Fin 20)) {d : Dev nD} (hd : d = peer s c)
    {α : Type} {Q : α → sProp 𝕄} {k : PUnit → Prog (TpuEff nD τ sig (Elt F) Λ₀ .tc) α} :
    iprop(records m ρ K ∗ ready s c ∗ owesE c (s :: l) ∗ gathSt m ρ c (part s) (rnd s + 1))
      ⊢ iprop(((flying s c ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ (sendGath s c d >>= k) Q) := by
  have hS : Places (rS s c).emb (mine s c) := by
    have h := rS_places s c; rwa [hs, if_pos rfl] at h
  have hSs : (rS s c).set = rows 2048 (mine s c) (len s) := by
    have h := rS_set s c; rwa [hs, if_pos rfl] at h
  unfold sendGath ready flying own place gathSt gathAt
  simp only [hs, if_true, Prog.lift, Prog.bind_op, Prog.bind_ret, peer_peer]
  iintro ⟨#HR, ⟨Hm, Ht, ⟨%fd, Hd⟩, -⟩, HO, Hg⟩ Hk
  have hpay₁ : ((((c : Thread nD τ).loc cc0_scratch2) ↦[rows 2048 (mine s c) (len s)]{fullShare} (gathered (xs m ρ))) : sProp 𝕄)
      ⊢ sendPay m ρ s c := by
    unfold sendPay gathAt; rw [hs, if_pos rfl]
  have hpay₂ : ((((peer s c : Dev nD) : Thread nD τ).loc cc0_scratch2) ↦[rows 2048 (mine s c) (len s)]{fullShare}
      ((gathM.access (rS s c)).write (Elt F) fd ((gathM.access (rS s c)).read (Elt F) (gathered (xs m ρ))) Finset.univ) : sProp 𝕄)
      ⊢ recvPay m ρ s (peer s c) := by
    unfold recvPay gathAt
    rw [hs, if_pos rfl, peer_peer]
    refine Entails.of_eq (pointsTo_congr fun i hi => ?_)
    obtain ⟨j, rfl⟩ := hS.surj hi
    exact write_block cc0_scratch2 (rS s c) fd _ j
  iapply (wp_put m ρ K l hd (src := gathM.slice (rS s c) (fun _ => rfl)) (dst := gathM.slice (rS s c) (fun _ => rfl)) (gathered (xs m ρ)) fd
    (rows 2048 (mine s c) (len s)) (rows 2048 (mine s c) (len s))
    ((set_block cc0_scratch2 _).trans hSs) ((set_block cc0_scratch2 _).trans hSs) hpay₁ hpay₂) $$ [Hg Hd HO Ht]
  · isplitr; · iexact HR
    isplitl [Hg]; · iexact Hg
    isplitl [Hd]; · iexact Hd
    isplitl [HO] <;> iassumption
  iintro ⟨Hc, HO⟩
  iapply Hk
  isplitl [Hm Hc]
  · isplitl [Hm] <;> iassumption
  iexact HO

/-- The rows two devices kept after a round are those both kept before it. -/
theorem gath_join (s : Fin 20) (c : Dev nD) (f : (Sh 2048).Idx → F .bf16) :
    (iprop(gathAt c (mine s c) (len s) f ∗ gathAt c (mine s (peer s c)) (len s) f) : sProp 𝕄)
      ⊢ gathAt c (off (part s) (rnd s) c) (sz (rnd s)) f := by
  unfold gathAt mine
  rw [sz_rnd]
  rcases split s c with ⟨h1, h2⟩ | ⟨h1, h2⟩
  · rw [h1, h2, ← rows_union]
    exact (pointsTo_union (rows_disjoint (.inl (Nat.le_refl _)))).2
  · rw [h1, h2, ← rows_union]
    iintro ⟨H, H'⟩
    iapply (pointsTo_union (rows_disjoint (.inl (Nat.le_refl _)))).2
    isplitl [H'] <;> iassumption

/-- A gathering transfer awaited and what it brought widened into the result. -/
theorem wp_recvGath (hs : gat s = true) (l : List (Fin 20)) (hl : ∀ s' ∈ l, phase s < phase s') (kk : Fin 2 → ℕ)
    (hk : kk (part s) = 10 - rnd s) (hk' : ∀ p, kk p ≤ 11)
    {α : Type} {Q : α → sProp 𝕄} {k : PUnit → Prog (TpuEff nD τ sig (Elt F) Λ₀ .tc) α} :
    iprop(records m ρ K ∗ levAts L lv ∗ flying s c ∗ owesE c l ∗ outSt m ρ c kk)
      ⊢ iprop(((done s c ∗ owesE c l ∗ gathSt m ρ c (part s) (rnd s) ∗ outSt m ρ c (Function.update kk (part s) (11 - rnd s)))
            -∗ wp frame (wpE (defs₀ (F := F)) 𝒱₀ (c : Thread nD τ) none) Set.univ (k ⟨⟩) Q)
          -∗ wp frame (wpE (defs₀ (F := F)) 𝒱₀ (c : Thread nD τ) none) Set.univ (recvGath s c >>= k) Q) := by
  have hK : Places (rK s c).emb (off (part s) (rnd s + 1) (peer s c)) := by
    have h := rK_places s c; rwa [hs, if_pos rfl] at h
  have hKs : (rK s c).set = rows 2048 (mine s (peer s c)) (len s) := by
    have h := rK_set s c; rwa [hs, if_pos rfl] at h
  unfold recvGath outSt
  simp only [Prog.lift, Prog.bind_op, Prog.bind_ret]
  iintro ⟨#HR, #Hlev, Hf, HO, ⟨%f, %hf, Hout⟩⟩ Hk
  iapply (wp_both m ρ K l hl) $$ [Hf HO]
  · isplitr; · iexact HR
    isplitr; · iexact Hlev
    isplitl [Hf] <;> iassumption
  iintro ⟨HzS, HzR, Hst, Hld, HO⟩
  unfold recvPay sendPay
  simp only [hs, if_true]
  ihave Hld := (Entails.of_eq (show (gathAt c (mine s (peer s c)) (len s) (gathered (xs m ρ)) : sProp 𝕄)
    = (((c : Thread nD τ).loc cc0_scratch2) ↦[rows 2048 (mine s (peer s c)) (len s)]{fullShare} (gathered (xs m ρ))) from rfl)) $$ Hld
  iapply (wp_load 𝒱₀ (c : Thread nD τ) none Set.univ (m := gathM) (Finset.Subset.trans (load_block _ _).subset hKs.subset)) $$ Hld; iintro Hld
  iapply (wp_load 𝒱₀ (c : Thread nD τ) none Set.univ (m := outM) (Finset.subset_univ _)) $$ Hout; iintro Hout
  iapply (wp_store 𝒱₀ (c : Thread nD τ) none Set.univ (m := outM) (r := rK s c) (Mk := Finset.univ) (Finset.subset_univ _)) $$ Hout; iintro Hout
  iapply Hk
  isplitl [HzS HzR]
  · unfold done own
    simp only [hs, if_true]
    isplitl [HzS]; · iexact HzS
    isplitl [HzR]; · iexact HzR
    isplitl <;> iempintro
  isplitl [HO]; · iexact HO
  isplitl [Hst Hld]
  · unfold gathSt
    iapply (gath_join s c (gathered (xs m ρ)))
    isplitl [Hst]; · iexact Hst
    unfold gathAt; iexact Hld
  iexists _
  isplitr
  · ipureintro
    exact step_ext (xs m ρ) s c hk hk' hf hK
      (fun j => (write_block cc0_stg1_0 (rK s c) f _ j).trans (extV_apply (gathM.view.readAt (Elt F) (rK s c).toLoadRect (gathered (xs m ρ))) j))
      (fun i hi => write_outside cc0_stg1_0 (rK s c) f _ (by rw [hKs]; exact hi))
  iexact Hout

end Steps

end Cert.KernelIdealProof

end
-- ==== Proof.KernelIdealRounds.lean ====
/-
  The rounds: what a device holds between them, and each round run from one such state to the next; the buffers cut into
  the rows the transfers move and put together again.
-/
module

public import proofs.«01_k».proof.Proof.KernelIdealSteps

@[expose] public section

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions along a list -/

/-- One conjunct for each item of a list. -/
def chain {I : Type} (Φ : I → sProp 𝕄) : List I → sProp 𝕄
  | [] => iprop(emp)
  | s :: l => iprop(Φ s ∗ chain Φ l)

omit [FloatOps F] in
theorem chain_cons {I : Type} (Φ : I → sProp 𝕄) (s : I) (l : List I) : chain Φ (s :: l) = iprop(Φ s ∗ chain Φ l) := rfl
omit [FloatOps F] in
theorem chain_finset {I : Type} [DecidableEq I] (Φ : I → sProp 𝕄) : ∀ (l : List I), l.Nodup → bigSep l.toFinset Φ = chain Φ l
  | [], _ => bigSep_empty
  | s :: l, h => by
    rw [List.nodup_cons] at h
    rw [List.toFinset_cons, bigSep_insert (by rw [List.mem_toFinset]; exact h.1), chain_finset Φ l h.2]; rfl
omit [FloatOps F] in
/-- One for each item of a finite type. -/
theorem chain_univ {I : Type} [DecidableEq I] [Fintype I] (Φ : I → sProp 𝕄) (l : List I) (h : l.Nodup) (ha : ∀ s, s ∈ l) :
    bigSep Finset.univ Φ = chain Φ l := by
  rw [← chain_finset Φ l h]; congr 1; ext s; simp [ha s]
omit [FloatOps F] in
theorem chain_append {I : Type} (Φ : I → sProp 𝕄) (l' : List I) : ∀ l : List I, chain Φ (l ++ l') = iprop(chain Φ l ∗ chain Φ l')
  | [] => (BI.equiv_iff.mp BI.emp_sep).symm
  | s :: l => by
    show iprop(Φ s ∗ chain Φ (l ++ l')) = iprop((Φ s ∗ chain Φ l) ∗ chain Φ l')
    rw [chain_append Φ l' l]; exact (BI.equiv_iff.mp ⟨BI.sep_assoc, BI.sep_assoc'⟩).symm
omit [FloatOps F] in
theorem chain_congr {I : Type} {Φ Ψ : I → sProp 𝕄} : ∀ {l : List I}, (∀ s ∈ l, Φ s = Ψ s) → chain Φ l = chain Ψ l
  | [], _ => rfl
  | s :: l, h => by
    unfold chain; rw [h s List.mem_cons_self, chain_congr fun t ht => h t (List.mem_cons_of_mem _ ht)]
omit [FloatOps F] in
theorem chain_emp {I : Type} : ∀ l : List I, chain (fun _ => (iprop(emp) : sProp 𝕄)) l = iprop(emp)
  | [] => rfl
  | s :: l => by unfold chain; rw [chain_emp l]; exact BI.equiv_iff.mp BI.emp_sep

/-! ## The states between rounds -/

section Rounds
variable (K : Dev nD × Ce → ℕ)

/-- In the reducing phase: the transfers of `l` ahead, those of `D` done, both halves after `r` rounds. -/
def stRow (c : Dev nD) (r : ℕ) (l D : List (Fin 20)) : sProp 𝕄 :=
  iprop(chain (ready · c) l ∗ owesE c l ∗ outSt m ρ c (fun _ => r) ∗ chain (done · c) D)
/-- In the gathering phase: the rows kept before round `r` gathered and in the result. -/
def stGath (c : Dev nD) (r : ℕ) (l D : List (Fin 20)) : sProp 𝕄 :=
  iprop(chain (ready · c) l ∗ owesE c l ∗ outSt m ρ c (fun _ => 11 - r) ∗ (gathSt m ρ c 0 r ∗ gathSt m ρ c 1 r) ∗ chain (done · c) D)

theorem update_both (a b : ℕ) : Function.update (Function.update (fun _ : Fin 2 => a) 0 b) 1 b = fun _ => b := by
  funext p; fin_cases p <;> rfl

/-- A reducing round. -/
theorem wp_roundRow {s s' : Fin 20} {c : Dev nD} (r : ℕ) (hs : gat s = false) (hs' : gat s' = false) (hp : part s = 0) (hp' : part s' = 1)
    (hr : (rnd s).val = r) (hr' : (rnd s').val = r) (l D : List (Fin 20)) (hl : ∀ t ∈ l, phase s < phase t) (hl' : ∀ t ∈ l, phase s' < phase t)
    {α : Type} {Q : α → sProp 𝕄} {k : PUnit → Prog (TpuEff nD τ sig (Elt F) Λ₀ .tc) α} :
    iprop(records m ρ K ∗ levAts L lv ∗ stRow m ρ c r (s :: s' :: l) D)
      ⊢ iprop((stRow m ρ c (r + 1) l (s' :: s :: D) -∗ wp frame (wpE (defs₀ (F := F)) 𝒱₀ (c : Thread nD τ) none) Set.univ (k ⟨⟩) Q)
          -∗ wp frame (wpE (defs₀ (F := F)) 𝒱₀ (c : Thread nD τ) none) Set.univ (roundRow s s' c >>= k) Q) := by
  have hr5 : r < 5 := by rw [← hr]; exact (rnd s).isLt
  have h01 : (1 : Fin 2) ≠ 0 := by decide
  unfold roundRow stRow
  simp only [bind_assoc, chain_cons]
  iintro ⟨#HR, #Hlev, ⟨Hs, Hs', Hl⟩, HO, Hout, HD⟩ Hk
  iapply (wp_sendRow m ρ K hs (s' :: l) (fun _ => r) hr.symm (Fin.ext (sendDev_eq s c))) $$ [Hs HO Hout]
  · isplitr; · iexact HR
    isplitl [Hs]; · iexact Hs
    isplitl [HO] <;> iassumption
  iintro ⟨Hs, HO, Hout⟩
  iapply (wp_sendRow m ρ K hs' l (fun _ => r) hr'.symm (Fin.ext (sendDev_eq s' c))) $$ [Hs' HO Hout]
  · isplitr; · iexact HR
    isplitl [Hs']; · iexact Hs'
    isplitl [HO] <;> iassumption
  iintro ⟨Hs', HO, Hout⟩
  iapply (wp_recvRow m ρ K hs l hl (fun _ => r) hr.symm (fun _ => by omega)) $$ [Hs HO Hout]
  · isplitr; · iexact HR
    isplitr; · iexact Hlev
    isplitl [Hs]; · iexact Hs
    isplitl [HO] <;> iassumption
  iintro ⟨Hs, HO, Hout⟩
  rw [hp, hr]
  iapply (wp_recvRow m ρ K hs' l hl' (Function.update (fun _ => r) 0 (r + 1)) (by rw [hp', Function.update_of_ne h01]; exact hr'.symm)
    (fun p => by fin_cases p; exacts [(show r + 1 ≤ 11 by omega), (show r ≤ 11 by omega)])) $$ [Hs' HO Hout]
  · isplitr; · iexact HR
    isplitr; · iexact Hlev
    isplitl [Hs']; · iexact Hs'
    isplitl [HO] <;> iassumption
  rw [hp', hr', update_both]
  iintro ⟨Hs', HO, Hout⟩
  iapply Hk
  isplitl [Hl]; · iexact Hl
  isplitl [HO]; · iexact HO
  isplitl [Hout]; · iexact Hout
  isplitl [Hs']; · iexact Hs'
  isplitl [Hs] <;> iassumption

/-- A gathering round. -/
theorem wp_roundGath {s s' : Fin 20} {c : Dev nD} (r : ℕ) (hs : gat s = true) (hs' : gat s' = true) (hp : part s = 0) (hp' : part s' = 1)
    (hr : (rnd s).val = r) (hr' : (rnd s').val = r) (l D : List (Fin 20)) (hl : ∀ t ∈ l, phase s < phase t) (hl' : ∀ t ∈ l, phase s' < phase t)
    {α : Type} {Q : α → sProp 𝕄} {k : PUnit → Prog (TpuEff nD τ sig (Elt F) Λ₀ .tc) α} :
    iprop(records m ρ K ∗ levAts L lv ∗ stGath m ρ c (r + 1) (s :: s' :: l) D)
      ⊢ iprop((stGath m ρ c r l (s' :: s :: D) -∗ wp frame (wpE (defs₀ (F := F)) 𝒱₀ (c : Thread nD τ) none) Set.univ (k ⟨⟩) Q)
          -∗ wp frame (wpE (defs₀ (F := F)) 𝒱₀ (c : Thread nD τ) none) Set.univ (roundGath s s' c >>= k) Q) := by
  have hr5 : r < 5 := by rw [← hr]; exact (rnd s).isLt
  have h01 : (1 : Fin 2) ≠ 0 := by decide
  have hk : 11 - (r + 1) = 10 - r := by omega
  have hg : gathSt m ρ c 0 (r + 1) = gathSt m ρ c (part s) (rnd s + 1) := by rw [hp, hr]
  have hg' : gathSt m ρ c 1 (r + 1) = gathSt m ρ c (part s') (rnd s' + 1) := by rw [hp', hr']
  unfold roundGath stGath
  simp only [bind_assoc, chain_cons]
  rw [hk, hg, hg']
  iintro ⟨#HR, #Hlev, ⟨Hs, Hs', Hl⟩, HO, Hout, ⟨Hg, Hg'⟩, HD⟩ Hk
  iapply (wp_sendGath m ρ K hs (s' :: l) (Fin.ext (sendDev_eq s c))) $$ [Hs HO Hg]
  · isplitr; · iexact HR
    isplitl [Hs]; · iexact Hs
    isplitl [HO] <;> iassumption
  iintro ⟨Hs, HO⟩
  iapply (wp_sendGath m ρ K hs' l (Fin.ext (sendDev_eq s' c))) $$ [Hs' HO Hg']
  · isplitr; · iexact HR
    isplitl [Hs']; · iexact Hs'
    isplitl [HO] <;> iassumption
  iintro ⟨Hs', HO⟩
  iapply (wp_recvGath m ρ K hs l hl (fun _ => 10 - r) (by rw [hr]) (fun _ => by omega)) $$ [Hs HO Hout]
  · isplitr; · iexact HR
    isplitr; · iexact Hlev
    isplitl [Hs]; · iexact Hs
    isplitl [HO] <;> iassumption
  iintro ⟨Hs, HO, Hg, Hout⟩
  rw [hp, hr]
  iapply (wp_recvGath m ρ K hs' l hl' (Function.update (fun _ => 10 - r) 0 (11 - r)) (by rw [hp', Function.update_of_ne h01, hr'])
    (fun p => by fin_cases p; exacts [(show 11 - r ≤ 11 by omega), (show 10 - r ≤ 11 by omega)])) $$ [Hs' HO Hout]
  · isplitr; · iexact HR
    isplitr; · iexact Hlev
    isplitl [Hs']; · iexact Hs'
    isplitl [HO] <;> iassumption
  rw [hp', hr', update_both]
  iintro ⟨Hs', HO, Hg', Hout⟩
  iapply Hk
  isplitl [Hl]; · iexact Hl
  isplitl [HO]; · iexact HO
  isplitl [Hout]; · iexact Hout
  isplitl [Hg Hg']; · isplitl [Hg] <;> iassumption
  isplitl [Hs']; · iexact Hs'
  isplitl [Hs] <;> iassumption

/-- The function applied to both halves' kept rows. -/
theorem wp_actBoth {c : Dev nD} (l D : List (Fin 20))
    {α : Type} {Q : α → sProp 𝕄} {k : PUnit → Prog (TpuEff nD τ sig (Elt F) Λ₀ .tc) α} :
    iprop(stRow m ρ c 5 l D ∗ (∃ g, gathAt c (off 0 5 c) (sz 5) g) ∗ (∃ g, gathAt c (off 1 5 c) (sz 5) g))
      ⊢ iprop((stGath m ρ c 5 l D -∗ wp frame (wpE (defs₀ (F := F)) 𝒱₀ (c : Thread nD τ) none) Set.univ (k ⟨⟩) Q)
          -∗ wp frame (wpE (defs₀ (F := F)) 𝒱₀ (c : Thread nD τ) none) Set.univ (actRow 4 c >>= fun _ => actRow 14 c >>= k) Q) := by
  unfold stRow stGath
  iintro ⟨⟨Hl, HO, Hout, HD⟩, Hg, Hg'⟩ Hk
  iapply (wp_actRow m ρ (s := 4) rfl rfl (fun _ => 5) rfl (fun _ => by decide)) $$ [Hg Hout]
  · isplitl [Hg]; · iexact Hg
    iexact Hout
  rw [show part 4 = 0 from rfl, show ((rnd 4 : Fin 5) : ℕ) + 1 = 5 from rfl]
  iintro ⟨Hg, Hout⟩
  iapply (wp_actRow m ρ (s := 14) rfl rfl (Function.update (fun _ => 5) 0 6) rfl (fun p => by fin_cases p <;> decide)) $$ [Hg' Hout]
  · isplitl [Hg']; · iexact Hg'
    iexact Hout
  rw [show part 14 = 1 from rfl, show ((rnd 14 : Fin 5) : ℕ) + 1 = 5 from rfl, update_both]
  iintro ⟨Hg', Hout⟩
  iapply Hk
  isplitl [Hl]; · iexact Hl
  isplitl [HO]; · iexact HO
  isplitl [Hout]; · iexact Hout
  isplitl [Hg Hg']; · isplitl [Hg] <;> iassumption
  iexact HD

end Rounds

/-! ## The buffers cut and put together -/

section Buffers

instance contents_nonempty (M : ℕ) : Nonempty ((Sh M).Idx → F .bf16) := ⟨fun _ => Scalar.ofBits .bf16 0x0000#16⟩

theorem exists_at {X : Type} (Φ : X → sProp 𝕄) (x : X) : Φ x ⊢ iprop(∃ x, Φ x) := by iintro H; iexists x; iexact H

/-- The reducing transfers and the gathering ones. -/
def reds : List (Fin 20) := [0, 1, 2, 3, 4, 10, 11, 12, 13, 14]
def gats : List (Fin 20) := [5, 6, 7, 8, 9, 15, 16, 17, 18, 19]

theorem gat_reds : ∀ s ∈ reds, gat s = false := by decide
theorem gat_gats : ∀ s ∈ gats, gat s = true := by decide
theorem both_nodup : (gats ++ reds).Nodup := by decide
theorem both_all : ∀ s, s ∈ gats ++ reds := by decide
theorem reds_nodup : reds.Nodup := by decide

theorem slots_apart : ∀ s ∈ reds, ∀ s' ∈ reds, s ≠ s' → slot s + len s ≤ slot s' ∨ slot s' + len s' ≤ slot s := by decide +kernel
theorem slots_cover : ∀ n : Fin 1984, ∃ s ∈ reds, slot s ≤ n.val ∧ n.val < slot s + len s := by decide +kernel

theorem slots_disjoint : ∀ s ∈ reds.toFinset, ∀ s' ∈ reds.toFinset, s ≠ s' → Disjoint (rows 1984 (slot s) (len s)) (rows 1984 (slot s') (len s')) :=
  fun s hs s' hs' h => rows_disjoint (slots_apart s (List.mem_toFinset.mp hs) s' (List.mem_toFinset.mp hs') h)
theorem slots_union : (reds.toFinset.biUnion fun s => rows 1984 (slot s) (len s)) = Finset.univ := by
  ext i
  rw [Finset.mem_biUnion]
  refine ⟨fun _ => Finset.mem_univ _, fun _ => ?_⟩
  obtain ⟨s, hs, h⟩ := slots_cover ⟨row i, (i 0).isLt⟩
  exact ⟨s, List.mem_toFinset.mpr hs, mem_rows.mpr h⟩

/-- The landing buffer cut into its slots, -/
theorem land_cut (c : Dev nD) (f : Buf (Elt F) ((c : Thread nD τ).loc cc0_scratch0)) :
    ((((c : Thread nD τ).loc cc0_scratch0) ↦{fullShare} f) : sProp 𝕄) ⊢ chain (fun s => iprop(∃ f, landAt c (slot s) (len s) f)) reds := by
  have h := pointsTo_biUnion (ℓ := (c : Thread nD τ).loc cc0_scratch0) (q := fullShare) (f := f) (Ix := Unit) (Name := ℕ) (U := UU) (Lvl := ℕ)
    reds.toFinset (fun s => rows 1984 (slot s) (len s)) slots_disjoint
  rw [slots_union] at h
  rw [← chain_finset _ _ reds_nodup]
  exact (Entails.of_eq h).trans (bigSep_mono fun s _ => exists_at (fun f : (Sh 1984).Idx → F .bf16 => (landAt c (slot s) (len s) f : sProp 𝕄)) f)
/-- and put together from them; -/
theorem land_join (c : Dev nD) :
    (chain (fun s => iprop(∃ f, landAt c (slot s) (len s) f)) reds : sProp 𝕄)
      ⊢ iprop(∃ f : Buf (Elt F) ((c : Thread nD τ).loc cc0_scratch0), ((c : Thread nD τ).loc cc0_scratch0) ↦{fullShare} f) := by
  rw [← chain_finset _ _ reds_nodup]
  iintro H
  ihave H := (BI.bigSep_exists_pi reds.toFinset (fun (s : Fin 20) (f : (Sh 1984).Idx → F .bf16) => (landAt c (slot s) (len s) f : sProp 𝕄))) $$ H
  icases H with ⟨%fs, H⟩
  have h := pointsTo_biUnion_join (ℓ := (c : Thread nD τ).loc cc0_scratch0) (q := fullShare) (Ix := Unit) (Name := ℕ) (U := UU) (Lvl := ℕ) (Val := Elt F)
    reds.toFinset (fun s => rows 1984 (slot s) (len s)) (fun s => fs s) (fs 0) slots_disjoint
  rw [slots_union] at h
  unfold landAt
  ihave H := h $$ H
  icases H with ⟨%g, -, H⟩
  iexists g; iexact H

/-- the same of the staging buffer. -/
theorem stage_cut (c : Dev nD) (f : Buf (Elt F) ((c : Thread nD τ).loc cc0_scratch1)) :
    ((((c : Thread nD τ).loc cc0_scratch1) ↦{fullShare} f) : sProp 𝕄) ⊢ chain (fun s => iprop(∃ f, stageAt c (slot s) (len s) f)) reds := by
  have h := pointsTo_biUnion (ℓ := (c : Thread nD τ).loc cc0_scratch1) (q := fullShare) (f := f) (Ix := Unit) (Name := ℕ) (U := UU) (Lvl := ℕ)
    reds.toFinset (fun s => rows 1984 (slot s) (len s)) slots_disjoint
  rw [slots_union] at h
  rw [← chain_finset _ _ reds_nodup]
  exact (Entails.of_eq h).trans (bigSep_mono fun s _ => exists_at (fun f : (Sh 1984).Idx → F .bf16 => (stageAt c (slot s) (len s) f : sProp 𝕄)) f)
theorem stage_join (c : Dev nD) :
    (chain (fun s => iprop(∃ f, stageAt c (slot s) (len s) f)) reds : sProp 𝕄)
      ⊢ iprop(∃ f : Buf (Elt F) ((c : Thread nD τ).loc cc0_scratch1), ((c : Thread nD τ).loc cc0_scratch1) ↦{fullShare} f) := by
  rw [← chain_finset _ _ reds_nodup]
  iintro H
  ihave H := (BI.bigSep_exists_pi reds.toFinset (fun (s : Fin 20) (f : (Sh 1984).Idx → F .bf16) => (stageAt c (slot s) (len s) f : sProp 𝕄))) $$ H
  icases H with ⟨%fs, H⟩
  have h := pointsTo_biUnion_join (ℓ := (c : Thread nD τ).loc cc0_scratch1) (q := fullShare) (Ix := Unit) (Name := ℕ) (U := UU) (Lvl := ℕ) (Val := Elt F)
    reds.toFinset (fun s => rows 1984 (slot s) (len s)) (fun s => fs s) (fs 0) slots_disjoint
  rw [slots_union] at h
  unfold stageAt
  ihave H := h $$ H
  icases H with ⟨%g, -, H⟩
  iexists g; iexact H

/-- The rows kept before a round cut into those kept after it and the peer's. -/
theorem gath_split (s : Fin 20) (c : Dev nD) (f : (Sh 2048).Idx → F .bf16) {p : Fin 2} {r r' : ℕ} (hp : part s = p) (hr : (rnd s).val = r)
    (hr' : r' = r + 1) :
    (gathAt c (off p r c) (sz r) f : sProp 𝕄) ⊢ iprop(gathAt c (off p r' c) (sz r') f ∗ gathAt c (mine s (peer s c)) (len s) f) := by
  subst hp hr hr'
  show (gathAt c (off (part s) (rnd s) c) (sz (rnd s)) f : sProp 𝕄) ⊢ iprop(gathAt c (mine s c) (len s) f ∗ gathAt c (mine s (peer s c)) (len s) f)
  unfold gathAt mine
  rw [sz_rnd]
  rcases split s c with ⟨h1, h2⟩ | ⟨h1, h2⟩
  · rw [h1, h2, ← rows_union]
    exact (pointsTo_union (rows_disjoint (.inl (Nat.le_refl _)))).1
  · rw [h1, h2, ← rows_union]
    iintro H
    ihave H := (pointsTo_union (rows_disjoint (.inl (Nat.le_refl _)))).1 $$ H
    icases H with ⟨H, H'⟩
    isplitl [H'] <;> iassumption

/-- The gathered rows' two halves. -/
theorem gath_halves (c : Dev nD) (f : (Sh 2048).Idx → F .bf16) :
    ((((c : Thread nD τ).loc cc0_scratch2) ↦{fullShare} f) : sProp 𝕄) ⊣⊢ iprop(gathAt c (off 0 0 c) (sz 0) f ∗ gathAt c (off 1 0 c) (sz 0) f) := by
  have h := pointsTo_union (ℓ := (c : Thread nD τ).loc cc0_scratch2) (q := fullShare) (f := f) (Val := Elt F) (Ix := Unit) (Name := ℕ) (U := UU) (Lvl := ℕ)
    (I := rows 2048 0 1024) (J := rows 2048 1024 1024) (rows_disjoint (.inl (Nat.le_refl _)))
  rwa [show rows 2048 0 1024 ∪ rows 2048 1024 1024 = Finset.univ from (rows_union 2048 0 1024 1024).trans (rows_all 2048)] at h

/-- The gathered rows cut into those a device ends up computing and those its transfers bring. -/
theorem gath_cut (c : Dev nD) (f : (Sh 2048).Idx → F .bf16) :
    ((((c : Thread nD τ).loc cc0_scratch2) ↦{fullShare} f) : sProp 𝕄)
      ⊢ iprop((∃ g, gathAt c (off 0 5 c) (sz 5) g) ∗ (∃ g, gathAt c (off 1 5 c) (sz 5) g)
          ∗ chain (fun s => iprop(∃ g, gathAt c (mine s (peer s c)) (len s) g)) gats) := by
  refine (gath_halves c f).1.trans ?_
  iintro ⟨H, H'⟩
  ihave H := (gath_split 5 c f (p := 0) (r := 0) (r' := 1) rfl rfl rfl) $$ H; icases H with ⟨H, H5⟩
  ihave H := (gath_split 6 c f (p := 0) (r := 1) (r' := 2) rfl rfl rfl) $$ H; icases H with ⟨H, H6⟩
  ihave H := (gath_split 7 c f (p := 0) (r := 2) (r' := 3) rfl rfl rfl) $$ H; icases H with ⟨H, H7⟩
  ihave H := (gath_split 8 c f (p := 0) (r := 3) (r' := 4) rfl rfl rfl) $$ H; icases H with ⟨H, H8⟩
  ihave H := (gath_split 9 c f (p := 0) (r := 4) (r' := 5) rfl rfl rfl) $$ H; icases H with ⟨H, H9⟩
  ihave H' := (gath_split 15 c f (p := 1) (r := 0) (r' := 1) rfl rfl rfl) $$ H'; icases H' with ⟨H', H15⟩
  ihave H' := (gath_split 16 c f (p := 1) (r := 1) (r' := 2) rfl rfl rfl) $$ H'; icases H' with ⟨H', H16⟩
  ihave H' := (gath_split 17 c f (p := 1) (r := 2) (r' := 3) rfl rfl rfl) $$ H'; icases H' with ⟨H', H17⟩
  ihave H' := (gath_split 18 c f (p := 1) (r := 3) (r' := 4) rfl rfl rfl) $$ H'; icases H' with ⟨H', H18⟩
  ihave H' := (gath_split 19 c f (p := 1) (r := 4) (r' := 5) rfl rfl rfl) $$ H'; icases H' with ⟨H', H19⟩
  isplitl [H]; · iexists f; iexact H
  isplitl [H']; · iexists f; iexact H'
  unfold gats
  simp only [chain_cons]
  isplitl [H5]; · iexists f; iexact H5
  isplitl [H6]; · iexists f; iexact H6
  isplitl [H7]; · iexists f; iexact H7
  isplitl [H8]; · iexists f; iexact H8
  isplitl [H9]; · iexists f; iexact H9
  isplitl [H15]; · iexists f; iexact H15
  isplitl [H16]; · iexists f; iexact H16
  isplitl [H17]; · iexists f; iexact H17
  isplitl [H18]; · iexists f; iexact H18
  isplitl [H19]; · iexists f; iexact H19
  unfold chain; iempintro

/-- The places others write on a device and the rows it stages in, from its buffers, with the rows of the gathered
    buffer it computes itself. -/
theorem places_cut (c : Dev nD) (f₀ : Buf (Elt F) ((c : Thread nD τ).loc cc0_scratch0)) (f₁ : Buf (Elt F) ((c : Thread nD τ).loc cc0_scratch1))
    (f₂ : Buf (Elt F) ((c : Thread nD τ).loc cc0_scratch2)) :
    (iprop((((c : Thread nD τ).loc cc0_scratch0) ↦{fullShare} f₀) ∗ (((c : Thread nD τ).loc cc0_scratch1) ↦{fullShare} f₁)
        ∗ (((c : Thread nD τ).loc cc0_scratch2) ↦{fullShare} f₂)) : sProp 𝕄)
      ⊢ iprop(((∃ g, gathAt c (off 0 5 c) (sz 5) g) ∗ (∃ g, gathAt c (off 1 5 c) (sz 5) g))
          ∗ (bigSep Finset.univ fun s => place s c) ∗ bigSep Finset.univ fun s => own s c) := by
  rw [chain_univ _ _ both_nodup both_all, chain_univ _ _ both_nodup both_all, chain_append, chain_append,
    chain_congr (l := gats) (Φ := fun s => place s c) (Ψ := fun s => iprop(∃ g, gathAt c (mine s (peer s c)) (len s) g))
      (fun s hs => by unfold place; rw [gat_gats s hs, if_pos rfl]),
    chain_congr (l := reds) (Φ := fun s => place s c) (Ψ := fun s => iprop(∃ f, landAt c (slot s) (len s) f))
      (fun s hs => by unfold place; rw [gat_reds s hs, if_neg Bool.false_ne_true]),
    chain_congr (l := gats) (Φ := fun s => own s c) (Ψ := fun _ => iprop(emp))
      (fun s hs => by unfold own; rw [gat_gats s hs, if_pos rfl]),
    chain_congr (l := reds) (Φ := fun s => own s c) (Ψ := fun s => iprop(∃ f, stageAt c (slot s) (len s) f))
      (fun s hs => by unfold own; rw [gat_reds s hs, if_neg Bool.false_ne_true]),
    chain_emp]
  iintro ⟨H0, H1, H2⟩
  ihave H0 := (land_cut c f₀) $$ H0
  ihave H1 := (stage_cut c f₁) $$ H1
  ihave H2 := (gath_cut c f₂) $$ H2
  icases H2 with ⟨Ha, Hb, H2⟩
  isplitl [Ha Hb]; · isplitl [Ha] <;> iassumption
  isplitl [H0 H2]; · isplitl [H2] <;> iassumption
  isplitr; · iempintro
  iexact H1

/-- Once all transfers are done: their semaphores at zero, and the landing and staging buffers whole again. -/
theorem done_join (c : Dev nD) :
    (bigSep Finset.univ (fun s => done s c) : sProp 𝕄)
      ⊢ iprop(((bigSep Finset.univ fun s => semVal (sendCell s c) 0) ∗ bigSep Finset.univ fun s => semVal (recvCell s c) 0)
          ∗ (∃ f : Buf (Elt F) ((c : Thread nD τ).loc cc0_scratch0), ((c : Thread nD τ).loc cc0_scratch0) ↦{fullShare} f)
          ∗ ∃ f : Buf (Elt F) ((c : Thread nD τ).loc cc0_scratch1), ((c : Thread nD τ).loc cc0_scratch1) ↦{fullShare} f) := by
  unfold done
  rw [bigSep_sep', bigSep_sep', bigSep_sep', chain_univ (fun s => own s c) _ both_nodup both_all,
    chain_univ (fun s => if gat s then iprop(emp) else iprop(∃ f, landAt c (slot s) (len s) f)) _ both_nodup both_all, chain_append, chain_append,
    chain_congr (l := gats) (Φ := fun s => if gat s then iprop(emp) else iprop(∃ f, landAt c (slot s) (len s) f)) (Ψ := fun _ => iprop(emp))
      (fun s hs => by rw [gat_gats s hs, if_pos rfl]),
    chain_congr (l := reds) (Φ := fun s => if gat s then iprop(emp) else iprop(∃ f, landAt c (slot s) (len s) f)) (Ψ := fun s => iprop(∃ f, landAt c (slot s) (len s) f))
      (fun s hs => by rw [gat_reds s hs, if_neg Bool.false_ne_true]),
    chain_congr (l := gats) (Φ := fun s => own s c) (Ψ := fun _ => iprop(emp))
      (fun s hs => by unfold own; rw [gat_gats s hs, if_pos rfl]),
    chain_congr (l := reds) (Φ := fun s => own s c) (Ψ := fun s => iprop(∃ f, stageAt c (slot s) (len s) f))
      (fun s hs => by unfold own; rw [gat_reds s hs, if_neg Bool.false_ne_true])]
  iintro ⟨HS, HV, ⟨-, H1⟩, -, H0⟩
  ihave H0 := (land_join c) $$ H0
  ihave H1 := (stage_join c) $$ H1
  isplitl [HS HV]; · isplitl [HS] <;> iassumption
  isplitl [H0] <;> iassumption

end Buffers

end Cert.KernelIdealProof

end
-- ==== Proof.KernelIdealBody.lean ====
/-
  The kernel's body on one device: from what the launch gives the device, through the barrier, the reducing rounds, the
  function and the gathering rounds, to its result.
-/
module

public import proofs.«01_k».proof.Proof.KernelIdealRounds

@[expose] public section

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Before and after -/

/-- What the exchange's ghost state gives a device: the records, its position at each of its cells, and the tokens of the
    duties it pays. -/
def ghost (K : Dev nD × Ce → ℕ) (c : Dev nD) : sProp 𝕄 :=
  iprop(records m ρ K
    ∗ (atPos ER (barCell c) 0 ∅ 0 ∗ (bigSep Finset.univ fun s => atPos ER (sendCell s c) 0 ∅ 0) ∗ bigSep Finset.univ fun s => atPos ER (recvCell s c) 0 ∅ 0)
    ∗ (bigSep Finset.univ fun j => dutyTok ER (barCell (pr j c)) 0 j) ∗ bigSep Finset.univ fun s => toks s c)
/-- With its rights to wait and the levels: what its body starts from. -/
def start (c : Dev nD) : sProp 𝕄 :=
  iprop((∃ K, ghost m ρ K c) ∗ (cred (tallyAt (barCell c) () 5) ∗ bigSep Finset.univ fun s => cred (tallyAt (recvCell s c) () (units s))) ∗ levAts L lv)

/-- The kernel's own three buffers, at any contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ ∃ f : Buf (Elt F) ((c : Thread nD τ).loc cc0_scratch2), ((c : Thread nD τ).loc cc0_scratch2) ↦{fullShare} f)

def Φ₀ (c : Dev nD) : sProp 𝕄 := iprop(start m ρ c ∗ scr c)
/-- Afterwards: the buffers, and every semaphore of the exchange at zero. -/
def Φ₁ (c : Dev nD) : sProp 𝕄 :=
  iprop(scr c ∗ ((bigSep Finset.univ fun s => semVal (sendCell s c) 0) ∗ bigSep Finset.univ fun s => semVal (recvCell s c) 0) ∗ semVal (barCell c) 0)

/-- The result on device `c`. -/
def outAt (c : Dev nD) : (cc0_stg1_0 : Ref sig .tc).ty.Contents (Elt F) := result (xs m ρ) c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Body
variable (K : Dev nD × Ce → ℕ)

/-! ## The barrier -/

/-- What device `c` still holds for its signals along the dimensions of `l`, and what it owes. -/
def sigSt (c : Dev nD) (l : List (Fin 5)) : sProp 𝕄 :=
  iprop(chain (fun j => iprop(dutyTok ER (barCell (pr j c)) 0 j ∗ barPay (pr j c) j)) l ∗ ∃ W, owes (c : Thread nD τ) (owedBar c l) W)

/-- A signal. -/
theorem wp_sig {c : Dev nD} (j : Fin 5) (l : List (Fin 5)) {d : Dev nD} (hd : d = pr j c)
    {α : Type} {Q : α → sProp 𝕄} {k : PUnit → Prog (TpuEff nD τ sig (Elt F) Λ₀ .tc) α} :
    iprop(records m ρ K ∗ sigSt c (j :: l))
      ⊢ iprop((sigSt c l -∗ wp frame (wpE (defs₀ (F := F)) 𝒱₀ (c : Thread nD τ) none) Set.univ (k ⟨⟩) Q)
          -∗ wp frame (wpE (defs₀ (F := F)) 𝒱₀ (c : Thread nD τ) none) Set.univ (semSignalWord d barS 1#32 >>= k) Q) := by
  subst hd
  unfold semSignalWord sigSt
  simp only [Prog.bind_op, Prog.bind_ret, chain_cons]
  iintro ⟨#HR, ⟨⟨Ht, Hp⟩, Hl⟩, ⟨%W, HO⟩⟩ Hk
  ihave Hrec := (record m ρ K (pr j c) (.inl ())) $$ HR
  icases Hrec with ⟨#HI, #Hr⟩
  iapply (Rounds.wp_signal 𝒱₀ ER (sched m ρ) (c : Thread nD τ) none (dst := (pr j c : Thread nD τ)) (κ := K (pr j c, .inl ()))
      (d := j) (by rw [duties_bar]; exact Finset.mem_univ _) ((amount_bar m ρ (pr j c) j).trans (by decide)) () (owedBar c l) rfl)
    $$ [HO Ht Hp]
  · isplitr; · iexact HI
    isplitl [HO]; · iexact HO
    isplitl [Ht]; · iexact Ht
    isplitl [Hp]; · rw [payload_bar]; iexact Hp
    iexact Hr
  iintro HO
  iapply Hk
  isplitl [Hl]; · iexact Hl
  iexists W; iexact HO

/-- The wait for all five signals: the places the transfers write. -/
theorem wp_bar {c : Dev nD} {α : Type} {Q : α → sProp 𝕄} {k : PUnit → Prog (TpuEff nD τ sig (Elt F) Λ₀ .tc) α} :
    iprop(records m ρ K ∗ levAts L lv ∗ sigSt c [] ∗ cred (tallyAt (barCell c) () 5) ∗ atPos ER (barCell c) 0 ∅ 0)
      ⊢ iprop(((owesE c order ∗ semVal (barCell c) 0 ∗ bigSep Finset.univ fun s => place s (peer s c))
            -∗ wp frame (wpE (defs₀ (F := F)) 𝒱₀ (c : Thread nD τ) none) Set.univ (k ⟨⟩) Q)
          -∗ wp frame (wpE (defs₀ (F := F)) 𝒱₀ (c : Thread nD τ) none) Set.univ (semWaitWord barS 5#32 >>= k) Q) := by
  unfold semWaitWord sigSt owesE
  simp only [Prog.bind_op, Prog.bind_ret]
  iintro ⟨#HR, #Hlev, ⟨-, ⟨%W, HO⟩⟩, Hc, Hat⟩ Hk
  ihave Hrec := (record m ρ K c (.inl ())) $$ HR
  icases Hrec with ⟨#HI, -⟩
  iapply (Rounds.wp_wait_rest_token 𝒱₀ ER (sched m ρ) (c : Thread nD τ) none (κ := K (c, .inl ()))
      (wpE_semWait_eq 𝒱₀ (c : Thread nD τ) none Set.univ) (Set.mem_univ _) () (O := owed c order) (W := W) (R := 0) (m := 0) (T := ∅)
      (by rw [expect_bar]; decide)) $$ [Hc HO Hat]
  · isplitr; · iexact HI
    isplitl [Hc]; · iexact Hc
    isplitl [HO]; · iexact HO
    isplitr
    · iapply (mayWait c (.reg barS) order (fun s _ => phase_pos s)); iexact Hlev
    iexact Hat
  iintro ⟨HO, Hat, -, Hpay⟩
  ihave Hp := (rest_bar m ρ c) $$ Hpay
  imod (Rounds.cell_close ER (sched m ρ) (Set.mem_univ (K (c, .inl ()))) (fun h => h) (R := 0 + 1) (duties_later m ρ (barCell c))) $$ [Hat] with Hz
  · isplitr; · iexact HI
    iexact Hat
  iapply Hk
  isplitl [HO]; · iexists _; iexact HO
  isplitl [Hz] <;> iassumption

/-! ## The copy at the start, and the result at the end -/

omit [FloatOps F] in
theorem hz : (![0, 0] : Fin 2 → Nat) = fun _ => 0 := funext fun a => by fin_cases a <;> rfl

/-- What the copy stores is what was loaded. -/
theorem copied (f g : (Sh 2048).Idx → F .f32) :
    (outM.access rW).write (Elt F) g (shapeCast (Sh 2048) ((xM.view.readAt (Elt F) rW.toLoadRect f : Vec F (Sh 2048) .f32)) (same 2048)) Finset.univ = f := by
  refine (Memref.write_access_unit_zero_univ (Elt F) cc0_stg1_0 hz _ g _).trans ?_
  refine (shapeCast_id (s := Sh 2048) _ _).trans ?_
  exact Memref.readAt_unit_zero (Elt F) cc0_stg0_0 hz _ f

theorem holds_start (c : Dev nD) (p : Fin 2) : Holds (xs m ρ) p 0 c (xstg m ρ c) := fun i => by
  rw [if_pos (Nat.zero_le 5)]; intro _ _; rfl
theorem holds_end (c : Dev nD) (f : (Sh 2048).Idx → F .f32) (h : ∀ p, Holds (xs m ρ) p 11 c f) : f = outAt m ρ c := by
  funext i
  have hi := h (half i) i
  have hr : row i < 2048 := (i 0).isLt
  rw [if_neg (by decide)] at hi
  have hv : (half i).val = row i / 1024 := Nat.mod_eq_of_lt (by omega)
  refine hi ?_ ?_
  · show 1024 * (half i).val ≤ row i
    rw [hv]; omega
  · show row i < 1024 * (half i).val + 1024
    rw [hv]; omega

/-- The state before the first round. -/
theorem stRow_intro (c : Dev nD) :
    iprop((bigSep Finset.univ fun s => atPos ER (sendCell s c) 0 ∅ 0) ∗ (bigSep Finset.univ fun s => atPos ER (recvCell s c) 0 ∅ 0)
        ∗ (bigSep Finset.univ fun s => cred (tallyAt (recvCell s c) () (units s))) ∗ (bigSep Finset.univ fun s => toks s c)
        ∗ (bigSep Finset.univ fun s => place s (peer s c)) ∗ (bigSep Finset.univ fun s => own s c) ∗ owesE c order ∗ outSt m ρ c (fun _ => 0))
      ⊢ stRow m ρ c 0 order [] := by
  unfold stRow
  rw [← chain_univ (fun s => ready s c) order order_nodup order_all]
  unfold ready mark
  rw [bigSep_sep', bigSep_sep', bigSep_sep', bigSep_sep', bigSep_sep']
  iintro ⟨HS, HV, HC, HT, HP, HOwn, HO, Hout⟩
  isplitl [HS HV HC HT HP HOwn]
  · isplitl [HS HV HC]
    · isplitl [HS]; · iexact HS
      isplitl [HV] <;> iassumption
    isplitl [HT]; · iexact HT
    isplitl [HP] <;> iassumption
  isplitl [HO]; · iexact HO
  isplitl [Hout]; · iexact Hout
  unfold chain; iempintro

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- The signals' state from the tokens and the device's own places. -/
theorem sigSt_intro (c : Dev nD) :
    iprop((bigSep Finset.univ fun j => dutyTok ER (barCell (pr j c)) 0 j) ∗ (bigSep Finset.univ fun s => (place s c : sProp 𝕄))
        ∗ ∃ W, owes (c : Thread nD τ) (O₀ c) W) ⊢ sigSt c [0, 1, 2, 3, 4] := by
  have h : (bigSep Finset.univ fun s => (place s c : sProp 𝕄)) = bigSep Finset.univ fun j => barPay (pr j c) j := by
    rw [BI.bigSep_fiberwise Finset.univ dimS, show Finset.univ.image dimS = Finset.univ from by decide]
    refine bigSep_congr fun j _ => ?_
    unfold barPay; rw [pr_pr]
  rw [h]
  unfold sigSt
  rw [← chain_univ _ [0, 1, 2, 3, 4] (by decide) (by decide), bigSep_sep']
  iintro ⟨HT, HP, HO⟩
  isplitl [HT HP]; · isplitl [HT] <;> iassumption
  iexact HO

/-- The body, step by step. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (F := F) xM (Memref.isWhole_whole _) outM (Memref.isWhole_whole _) landM (Memref.isWhole_whole _)
            stageM (Memref.isWhole_whole _) gathM (Memref.isWhole_whole _) cc0_scratch3 cc0_scratch4) Kt := by
  rw [body_eq]
  simp only [Prog.lift, Prog.bind_op, Prog.bind_ret, wp_deviceId]
  rw [show prog (F := F) c = prog c >>= Prog.ret from (bind_pure _).symm]
  unfold prog
  simp only [bind_assoc]
  unfold bodyPre Φ₀ start ghost scr
  iintro ⟨⟨⟨⟨⟨%K, #HR, ⟨HatB, HatS, HatV⟩, HtB, Ht⟩, ⟨HcB, HcV⟩, #Hlev⟩, ⟨%f0, Hs0⟩, ⟨%f1, Hs1⟩, ⟨%f2, Hs2⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave Hcut := (places_cut c f0 f1 f2) $$ [Hs0 Hs1 Hs2]
  · isplitl [Hs0]; · iexact Hs0
    isplitl [Hs1] <;> iassumption
  icases Hcut with ⟨⟨Hg, Hg'⟩, HP, HOwn⟩
  ihave Hsig := (sigSt_intro c) $$ [HtB HP HO]
  · isplitl [HtB]; · iexact HtB
    isplitl [HP]; · iexact HP
    iexists W; iexact HO
  iapply (wp_sig m ρ K 0 [1, 2, 3, 4] (Fin.ext (sigDev_eq 0 c))) $$ [Hsig]
  · isplitr; · iexact HR
    iexact Hsig
  iintro Hsig
  iapply (wp_sig m ρ K 1 [2, 3, 4] (Fin.ext (sigDev_eq 1 c))) $$ [Hsig]
  · isplitr; · iexact HR
    iexact Hsig
  iintro Hsig
  iapply (wp_sig m ρ K 2 [3, 4] (Fin.ext (sigDev_eq 2 c))) $$ [Hsig]
  · isplitr; · iexact HR
    iexact Hsig
  iintro Hsig
  iapply (wp_sig m ρ K 3 [4] (Fin.ext (sigDev_eq 3 c))) $$ [Hsig]
  · isplitr; · iexact HR
    iexact Hsig
  iintro Hsig
  iapply (wp_sig m ρ K 4 [] (Fin.ext (sigDev_eq 4 c))) $$ [Hsig]
  · isplitr; · iexact HR
    iexact Hsig
  iintro Hsig
  iapply (wp_bar m ρ K) $$ [Hsig HcB HatB]
  · isplitr; · iexact HR
    isplitr; · iexact Hlev
    isplitl [Hsig]; · iexact Hsig
    isplitl [HcB] <;> iassumption
  iintro ⟨HO, HzB, HP⟩
  simp only [Prog.lift, Prog.bind_op, Prog.bind_ret]
  iapply (wp_load 𝒱₀ (c : Thread nD τ) none Set.univ (m := xM) (Finset.subset_univ _)) $$ Hx; iintro Hx
  iapply (wp_load 𝒱₀ (c : Thread nD τ) none Set.univ (m := outM) (Finset.subset_univ _)) $$ Hout; iintro Hout
  iapply (wp_store 𝒱₀ (c : Thread nD τ) none Set.univ (m := outM) (r := rW) (Mk := Finset.univ) (Finset.subset_univ _)) $$ Hout; iintro Hout
  rw [copied]
  ihave Hst := (stRow_intro m ρ c) $$ [HatS HatV HcV Ht HP HOwn HO Hout]
  · isplitl [HatS]; · iexact HatS
    isplitl [HatV]; · iexact HatV
    isplitl [HcV]; · iexact HcV
    isplitl [Ht]; · iexact Ht
    isplitl [HP]; · iexact HP
    isplitl [HOwn]; · iexact HOwn
    isplitl [HO]; · iexact HO
    unfold outSt
    iexists (xstg m ρ c)
    isplitr; · ipureintro; exact holds_start m ρ c
    iexact Hout
  iapply (wp_roundRow m ρ K (s := 0) (s' := 10) 0 rfl rfl rfl rfl rfl rfl [1, 11, 2, 12, 3, 13, 4, 14, 9, 19, 8, 18, 7, 17, 6, 16, 5, 15] _ (by decide) (by decide)) $$ [Hst]
  · isplitr; · iexact HR
    isplitr; · iexact Hlev
    iexact Hst
  iintro Hst
  iapply (wp_roundRow m ρ K (s := 1) (s' := 11) 1 rfl rfl rfl rfl rfl rfl [2, 12, 3, 13, 4, 14, 9, 19, 8, 18, 7, 17, 6, 16, 5, 15] _ (by decide) (by decide)) $$ [Hst]
  · isplitr; · iexact HR
    isplitr; · iexact Hlev
    iexact Hst
  iintro Hst
  iapply (wp_roundRow m ρ K (s := 2) (s' := 12) 2 rfl rfl rfl rfl rfl rfl [3, 13, 4, 14, 9, 19, 8, 18, 7, 17, 6, 16, 5, 15] _ (by decide) (by decide)) $$ [Hst]
  · isplitr; · iexact HR
    isplitr; · iexact Hlev
    iexact Hst
  iintro Hst
  iapply (wp_roundRow m ρ K (s := 3) (s' := 13) 3 rfl rfl rfl rfl rfl rfl [4, 14, 9, 19, 8, 18, 7, 17, 6, 16, 5, 15] _ (by decide) (by decide)) $$ [Hst]
  · isplitr; · iexact HR
    isplitr; · iexact Hlev
    iexact Hst
  iintro Hst
  iapply (wp_roundRow m ρ K (s := 4) (s' := 14) 4 rfl rfl rfl rfl rfl rfl [9, 19, 8, 18, 7, 17, 6, 16, 5, 15] _ (by decide) (by decide)) $$ [Hst]
  · isplitr; · iexact HR
    isplitr; · iexact Hlev
    iexact Hst
  iintro Hst
  iapply (wp_actBoth m ρ _ _) $$ [Hst Hg Hg']
  · isplitl [Hst]; · iexact Hst
    isplitl [Hg] <;> iassumption
  iintro Hst
  iapply (wp_roundGath m ρ K (s := 9) (s' := 19) 4 rfl rfl rfl rfl rfl rfl [8, 18, 7, 17, 6, 16, 5, 15] _ (by decide) (by decide)) $$ [Hst]
  · isplitr; · iexact HR
    isplitr; · iexact Hlev
    iexact Hst
  iintro Hst
  iapply (wp_roundGath m ρ K (s := 8) (s' := 18) 3 rfl rfl rfl rfl rfl rfl [7, 17, 6, 16, 5, 15] _ (by decide) (by decide)) $$ [Hst]
  · isplitr; · iexact HR
    isplitr; · iexact Hlev
    iexact Hst
  iintro Hst
  iapply (wp_roundGath m ρ K (s := 7) (s' := 17) 2 rfl rfl rfl rfl rfl rfl [6, 16, 5, 15] _ (by decide) (by decide)) $$ [Hst]
  · isplitr; · iexact HR
    isplitr; · iexact Hlev
    iexact Hst
  iintro Hst
  iapply (wp_roundGath m ρ K (s := 6) (s' := 16) 1 rfl rfl rfl rfl rfl rfl [5, 15] _ (by decide) (by decide)) $$ [Hst]
  · isplitr; · iexact HR
    isplitr; · iexact Hlev
    iexact Hst
  iintro Hst
  iapply (wp_roundGath m ρ K (s := 5) (s' := 15) 0 rfl rfl rfl rfl rfl rfl [] _ (by decide) (by decide)) $$ [Hst]
  · isplitr; · iexact HR
    isplitr; · iexact Hlev
    iexact Hst
  iintro Hst
  rw [wp_ret]; imodintro
  iapply Hk
  unfold stGath owesE outSt gathSt
  icases Hst with ⟨-, ⟨%W', HO⟩, ⟨%f, %hf, Hout⟩, Hg, HD⟩
  ihave HD := (Entails.of_eq (chain_univ (fun s => done s c) [15, 5, 16, 6, 17, 7, 18, 8, 19, 9, 14, 4, 13, 3, 12, 2, 11, 1, 10, 0] (by decide) (by decide)).symm) $$ HD
  ihave HD := (done_join c) $$ HD
  icases HD with ⟨Hz, H0, H1⟩
  ihave Hg := (gath_halves c _).2 $$ Hg
  unfold bodyPost Φ₁ scr Dat.owesAt Pipeline.owesWithin
  rw [show (dats m ρ 0 c).owed t₀.succ = 0 from rfl]
  isplitl [H0 H1 Hg Hz HzB]
  · isplitl [H0 H1 Hg]
    · isplitl [H0]; · iexact H0
      isplitl [H1]; · iexact H1
      iexists _; iexact Hg
    isplitl [Hz] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; exact holds_end m ρ c f hf)
  iexact Hout

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (F := F) xM (Memref.isWhole_whole _) outM (Memref.isWhole_whole _) landM (Memref.isWhole_whole _)
            stageM (Memref.isWhole_whole _) gathM (Memref.isWhole_whole _) cc0_scratch3 cc0_scratch4) (fun _ => bodyPost m ρ c)
  iintro H
  iapply (sound_body m ρ c fun _ => bodyPost m ρ c)
  isplitl [H]; · iexact H
  iintro H; iexact H

end Body

end Cert.KernelIdealProof

end
-- ==== Proof.KernelIdealLaunch.lean ====
/-
  The launch: the ghost state of all cells made, its tokens dealt to the devices that pay with them, the credits of the
  waits, and the run of the whole program.
-/
module

public import proofs.«01_k».proof.Proof.KernelIdealBody
public import Idealize.ShloMosaic.Lib.Pipeline.CollectiveSegs

@[expose] public section

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem ownSemFacts : Pipeline.OwnSemFacts cfg0.spec osem := by decide +kernel

theorem share_eq (c : Dev nD) (w : Fin cfg0.W) : (dats m ρ 0 c).share w = fullShare := by unfold Dat.share; split <;> rfl

theorem kcell_injective : Function.Injective (kcell : Dev nD × Ce → GSem nD τ sig) := by
  rintro ⟨c, k⟩ ⟨c', k'⟩ h
  have h1 : c = c' := congrArg (fun g : GSem nD τ sig => g.1.1) h
  have h2 : csem k = csem k' := congrArg Prod.snd h
  have h3 := congrArg kind h2
  rw [kind_csem, kind_csem] at h3
  rw [h1, Option.some.inj h3]
def allCells : Finset (GSem nD τ sig) := Finset.univ.map ⟨kcell, kcell_injective⟩

/-- The duties of a device's own cells: its barrier's five, and one each of its transfers' cells. -/
abbrev Duty : Type := Fin 5 ⊕ Own
def dutyCell : Duty → Ce := Sum.elim (fun _ => .inl ()) .inr
def dutyNo : Duty → Fin 5 := Sum.elim id (fun _ => 0)
def tokOf (cj : Dev nD × Duty) : GSem nD τ sig × ℕ × Fin 5 := (kcell (cj.1, dutyCell cj.2), 0, dutyNo cj.2)
theorem duty_ext : ∀ d d' : Duty, dutyCell d = dutyCell d' → dutyNo d = dutyNo d' → d = d' := by
  rintro (j | o) (j' | o') h h'
  · exact congrArg Sum.inl h'
  · cases h
  · cases h
  · exact congrArg Sum.inr (Sum.inr.inj h)
theorem tokOf_injective : Function.Injective (tokOf : Dev nD × Duty → GSem nD τ sig × ℕ × Fin 5) := by
  rintro ⟨c, j⟩ ⟨c', j'⟩ h
  have h1 := kcell_injective (congrArg Prod.fst h)
  have h2 : dutyNo j = dutyNo j' := congrArg (fun x : GSem nD τ sig × ℕ × Fin 5 => x.2.2) h
  exact Prod.ext (Prod.mk.inj h1).1 (duty_ext j j' (Prod.mk.inj h1).2 h2)
def allToks : Finset (GSem nD τ sig × ℕ × Fin 5) := Finset.univ.map ⟨tokOf, tokOf_injective⟩

def u₀ : UU :=
  (initOf (Pipeline.cells cfgs cellOf_inj) (Pipeline.launchToks cfgs cellOf_inj), initOf allCells allToks)

/-- The tokens of the duties of device `c`'s own cells. -/
def minted (c : Dev nD) : sProp 𝕄 :=
  iprop((bigSep Finset.univ fun j => dutyTok ER (barCell c) 0 j)
    ∗ (bigSep Finset.univ fun s => dutyTok ER (sendCell s c) 0 0) ∗ bigSep Finset.univ fun s => dutyTok ER (recvCell s c) 0 0)

/-- What the launch element gives device `c`, -/
def G (c : Dev nD) : sProp 𝕄 :=
  iprop((bigSep Finset.univ fun k : Ce => roundState ER (sched m ρ) (kcell (c, k)) 0)
    ∗ (bigSep Finset.univ fun k : Ce => iprop(atPos ER (kcell (c, k)) 0 ∅ 0 ∗ reached ER (kcell (c, k)) 0)) ∗ minted c)
/-- and what becomes of it. -/
def G' (c : Dev nD) : sProp 𝕄 := iprop(∃ K, ghost m ρ K c)

omit [FloatOps F] in
theorem bigSep_sum {A B : Type} [Fintype A] [Fintype B] (Φ : A ⊕ B → sProp 𝕄) :
    bigSep Finset.univ Φ = iprop((bigSep Finset.univ fun a => Φ (.inl a)) ∗ bigSep Finset.univ fun b => Φ (.inr b)) := BI.bigSep_univ_sum Φ
omit [FloatOps F] in
/-- One conjunct for each of a device's cells. -/
theorem bigSep_cells (Φ : Ce → sProp 𝕄) :
    bigSep Finset.univ Φ = iprop(Φ (.inl ()) ∗ (bigSep Finset.univ fun s => Φ (.inr (.inl s))) ∗ bigSep Finset.univ fun s => Φ (.inr (.inr s))) := by
  rw [bigSep_sum, bigSep_sum, show (Finset.univ : Finset Unit) = {()} from rfl, bigSep_singleton]

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Ce => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => by unfold minted; rw [bigSep_sum, bigSep_sum]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
/-- The kernel's own semaphores at zero; -/
theorem ownSems0_eq (c : Dev nD) : (Pipeline.ownSems0 (Ix := Unit) (Name := ℕ) (U := UU) (Lvl := ℕ) (Val := Elt F) (τ := τ) osem c : sProp 𝕄)
    = iprop((bigSep Finset.univ fun s => semVal (sendCell s c) 0) ∗ bigSep Finset.univ fun s => semVal (recvCell s c) 0) := by
  unfold Pipeline.ownSems0; rw [bigSep_sum]; rfl
omit [FloatOps F] in
/-- the barrier's is the only other one. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ce => semVal (kcell (c, k)) 0 : sProp 𝕄) := by
  rw [ownSems0_eq, unscopedSems0_eq, bigSep_cells]
  iintro ⟨⟨HS, HV⟩, HB⟩
  isplitl [HB]; · iexact HB
  isplitl [HS]; · iexact HS
  iexact HV

/-- The invariants of device `c`'s cells allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ minted c) := by
  unfold G
  iintro ⟨Hos, Hus, Hst, Hat, Htok⟩
  ihave Hv := (sems0_eq (F := F) c) $$ [Hos Hus]
  · isplitl [Hos] <;> iassumption
  imod (show iprop((bigSep Finset.univ fun k : Ce => semVal (kcell (c, k)) 0) ∗ bigSep Finset.univ fun k : Ce => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt out -/

/-- The tokens of the duties that device `c` pays. -/
def payToks (c : Dev nD) : sProp 𝕄 :=
  iprop((bigSep Finset.univ fun j => dutyTok ER (barCell (pr j c)) 0 j) ∗ bigSep Finset.univ fun s => toks s c)

omit [FloatOps F] in
/-- Tokens of an exchange along one dimension each, held by the payer instead of the cell's device. -/
theorem across {I : Type} [Fintype I] (e : I → Dev nD ≃ Dev nD) (T : I → Dev nD → sProp 𝕄) :
    (bigSep Finset.univ fun c : Dev nD => bigSep Finset.univ fun i => T i c) = bigSep Finset.univ fun c : Dev nD => bigSep Finset.univ fun i => T i (e i c) := by
  rw [bigSep_univ_comm, bigSep_univ_comm (fun (c : Dev nD) i => T i (e i c))]
  exact bigSep_congr fun i _ => bigSep_univ_equiv (e i) (T i)

omit [FloatOps F] in
theorem toks_around : (bigSep Finset.univ fun c : Dev nD => (minted c : sProp 𝕄)) ⊢ bigSep Finset.univ fun c : Dev nD => payToks c := by
  have hB := across (fun j => swap j) (fun (j : Fin 5) (c : Dev nD) => (dutyTok ER (barCell c) 0 j : sProp 𝕄))
  have hV := across (fun s => swap (dimS s)) (fun (s : Fin 20) (c : Dev nD) => (dutyTok ER (recvCell s c) 0 0 : sProp 𝕄))
  unfold minted payToks toks
  simp only [bigSep_sep']
  rw [hB, hV]
  iintro ⟨H1, H2, H3⟩
  isplitl [H1]; · iexact H1
  isplitl [H2]; · iexact H2
  iexact H3

/-- What stays with device `c` beside the records. -/
def linear (c : Dev nD) : sProp 𝕄 :=
  iprop((atPos ER (barCell c) 0 ∅ 0 ∗ (bigSep Finset.univ fun s => atPos ER (sendCell s c) 0 ∅ 0) ∗ bigSep Finset.univ fun s => atPos ER (recvCell s c) 0 ∅ 0)
    ∗ payToks c)

theorem ghost_intro (K : Dev nD × Ce → ℕ) (c : Dev nD) : iprop(records m ρ K ∗ linear c) ⊢ G' m ρ c := by
  unfold linear payToks G' ghost
  iintro ⟨HR, Hat, Ht⟩
  iexists K
  isplitl [HR]; · iexact HR
  isplitl [Hat]; · iexact Hat
  iexact Ht

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ minted c) : sProp 𝕄)
      ⊢ bigSep Finset.univ (G' m ρ) := by
  rw [bigSep_sep', bigSep_sep', ← bigSep_univ_prod (fun ck : Dev nD × Ce => iprop(∃ κ : ℕ, cellInv ER (sched m ρ) κ (kcell ck))),
    bigSep_congr (s := Finset.univ) (fun (c : Dev nD) _ => bigSep_sep' Finset.univ (fun k : Ce => (atPos ER (kcell (c, k)) 0 ∅ 0 : sProp 𝕄)) (fun k => reached ER (kcell (c, k)) 0)),
    bigSep_sep', ← bigSep_univ_prod (fun ck : Dev nD × Ce => (reached ER (kcell ck) 0 : sProp 𝕄))]
  iintro ⟨HI, ⟨Hat, HR⟩, Htok⟩
  ihave HK := (BI.bigSep_exists_pi Finset.univ (fun (ck : Dev nD × Ce) (κ : ℕ) => (cellInv ER (sched m ρ) κ (kcell ck) : sProp 𝕄))) $$ HI
  icases HK with ⟨%K, HI⟩
  ihave Htk := (toks_around (F := F)) $$ Htok
  iapply (with_records (R := records m ρ K) fun c _ => ghost_intro m ρ K c)
  isplitl [HI HR]
  · unfold records; rw [bigSep_sep']
    isplitl [HI]; · iexact HI
    iexact HR
  · iapply ((Entails.of_eq (bigSep_sep' Finset.univ (fun c : Dev nD => bigSep Finset.univ fun k : Ce => (atPos ER (kcell (c, k)) 0 ∅ 0 : sProp 𝕄)) payToks).symm).trans
      (bigSep_mono fun c _ => show _ ⊢ linear c from Entails.of_eq (by unfold linear; rw [bigSep_cells]; rfl)))
    isplitl [Hat]; · iexact Hat
    iexact Htk

/-- The global step of the launch: the semaphores of all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem bar_eq_iff {a b : Dev nD} : barCell a = barCell b ↔ a = b :=
  ⟨fun h => Fin.ext (congrArg (fun g : GSem nD τ sig => g.1.1.val) h), fun h => h ▸ rfl⟩
theorem recv_eq_iff {s t : Fin 20} {a b : Dev nD} : recvCell s a = recvCell t b ↔ s = t ∧ a = b :=
  ⟨fun h => by
    have h1 := congrArg (fun g : GSem nD τ sig => kind g.2) h
    simp only [kind_recv] at h1
    exact ⟨Sum.inr.inj (Sum.inr.inj (Option.some.inj h1)), Fin.ext (congrArg (fun g : GSem nD τ sig => g.1.1.val) h)⟩,
    fun h => by rw [h.1, h.2]⟩
theorem recv_ne_bar (s : Fin 20) (a b : Dev nD) : recvCell s a ≠ barCell b := fun h => by
  have h1 := congrArg (fun g : GSem nD τ sig => kind g.2) h
  simp only [kind_recv, kind_bar] at h1
  cases Option.some.inj h1

theorem owed_bar (d c : Dev nD) : ∀ l : List (Fin 20), owed d l (barCell c) () = 0
  | [] => rfl
  | s :: l => by
    unfold owed
    rw [Pi.add_apply, Finsupp.add_apply, owed_bar d c l, tallyAt_ne_cell (fun h => recv_ne_bar s _ _ h.symm)]; rfl
theorem owedBar_bar (d c : Dev nD) : ∀ l : List (Fin 5), owedBar d l (barCell c) () = (l.map fun j => if pr j d = c then 1 else 0).sum
  | [] => owed_bar d c order
  | j :: l => by
    unfold owedBar
    rw [Pi.add_apply, Finsupp.add_apply, owedBar_bar d c l, tallyAt_apply, List.map_cons, List.sum_cons, Nat.add_comm]
    congr 1
    by_cases h : pr j d = c
    · rw [if_pos h, if_pos ⟨by rw [h], rfl⟩]
    · rw [if_neg h, if_neg fun h' => h (bar_eq_iff.mp h'.1).symm]
theorem owed_recv (s : Fin 20) (d c : Dev nD) : ∀ l : List (Fin 20), l.Nodup →
    owed d l (recvCell s c) () = if s ∈ l ∧ d = peer s c then units s else 0
  | [], _ => by rw [if_neg fun h => List.not_mem_nil h.1]; rfl
  | t :: l, hn => by
    rw [List.nodup_cons] at hn
    unfold owed
    rw [Pi.add_apply, Finsupp.add_apply, owed_recv s d c l hn.2, tallyAt_apply]
    by_cases hst : s = t
    · subst hst
      rw [if_neg fun h => hn.1 h.1, Nat.zero_add]
      by_cases h : d = peer s c
      · rw [if_pos ⟨by rw [h, peer_peer], rfl⟩, if_pos ⟨List.mem_cons_self, h⟩]
      · rw [if_neg fun h' => h (by rw [(recv_eq_iff.mp h'.1).2, peer_peer]), if_neg fun h' => h h'.2]
    · rw [if_neg (c := recvCell s c = recvCell t (peer t d) ∧ () = ()) fun h' => hst (recv_eq_iff.mp h'.1).1, Nat.add_zero]
      by_cases h : s ∈ l ∧ d = peer s c
      · rw [if_pos h, if_pos ⟨List.mem_cons_of_mem _ h.1, h.2⟩]
      · rw [if_neg h, if_neg fun h' => h ⟨(List.mem_cons.mp h'.1).resolve_left hst, h'.2⟩]
theorem owedBar_recv (s : Fin 20) (d c : Dev nD) : ∀ l : List (Fin 5), owedBar d l (recvCell s c) () = if d = peer s c then units s else 0
  | [] => by
    refine (owed_recv s d c order order_nodup).trans ?_
    by_cases h : d = peer s c
    · rw [if_pos h, if_pos ⟨order_all s, h⟩]
    · rw [if_neg h, if_neg fun h' => h h'.2]
  | j :: l => by
    unfold owedBar
    rw [Pi.add_apply, Finsupp.add_apply, owedBar_recv s d c l, tallyAt_ne_cell (recv_ne_bar s _ _)]; rfl

theorem signals_five : ∀ c : Dev nD, (∑ d : Dev nD, (([0, 1, 2, 3, 4] : List (Fin 5)).map fun j => if pr j d = c then 1 else 0).sum) = 5 := by decide +kernel

theorem launch_bar (c : Dev nD) :
    tallyOn (barCell c) (launchCredit (Pipeline.owing O₀) 0 (barCell c)) = (tallyAt (barCell c) () 5 : CellTallies nD τ sig Unit) := by
  unfold tallyAt; refine congrArg _ (Finsupp.ext fun u => ?_); cases u
  rw [Pipeline.launchCredit_owing, Finsupp.single_eq_same, show (∑ d, O₀ d (barCell c) ()) = _ from Finset.sum_congr rfl fun d _ => owedBar_bar d c _]
  exact signals_five c
theorem launch_recv (s : Fin 20) (c : Dev nD) :
    tallyOn (recvCell s c) (launchCredit (Pipeline.owing O₀) 0 (recvCell s c)) = (tallyAt (recvCell s c) () (units s) : CellTallies nD τ sig Unit) := by
  unfold tallyAt; refine congrArg _ (Finsupp.ext fun u => ?_); cases u
  rw [Pipeline.launchCredit_owing, Finsupp.single_eq_same, show (∑ d, O₀ d (recvCell s c) ()) = _ from Finset.sum_congr rfl fun d _ => owedBar_recv s d c _,
    Finset.sum_ite_eq' Finset.univ (peer s c) fun _ => units s, if_pos (Finset.mem_univ _)]

def rcvEmb : Fin 20 ↪ SemLoc sig := ⟨fun s => .dma (rcvS s), fun s t h => by
  have h1 := congrArg kind h
  simp only [kind_recv] at h1
  exact Sum.inr.inj (Sum.inr.inj (Option.some.inj h1))⟩
theorem rcvEmb_sub : Finset.univ.map rcvEmb ⊆ Finset.univ.erase (SemLoc.reg barS) := fun q hq => by
  obtain ⟨s, _, rfl⟩ := Finset.mem_map.mp hq
  rw [Finset.mem_erase]
  exact ⟨(nofun : SemLoc.dma (rcvS s) ≠ SemLoc.reg barS), Finset.mem_univ _⟩

omit [FloatOps F] in
theorem creds (c : Dev nD) :
    (Pipeline.launchCred O₀ c : sProp 𝕄) ⊢ iprop(cred (tallyAt (barCell c) () 5) ∗ bigSep Finset.univ fun s => cred (tallyAt (recvCell s c) () (units s))) := by
  unfold Pipeline.launchCred
  have h (s : Fin 20) : (cred (tallyOn (recvCell s c) (launchCredit (Pipeline.owing O₀) 0 (recvCell s c))) : sProp 𝕄) = cred (tallyAt (recvCell s c) () (units s)) := by rw [launch_recv]
  rw [bigSep_univ_at _ (SemLoc.reg barS), launch_bar]
  refine sep_mono_right ((BI.bigSep_subset rcvEmb_sub).trans ?_)
  rw [bigSep_map]
  exact Entails.of_eq (bigSep_congr fun s _ => h s)

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of the program on the 32
    devices ends, with each device's arrays at the contents computed here and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds after the run what it held. -/
theorem finalA_x (c : Dev nD) : finalA m ρ c (0 : Fin 2) = (s₀ m ρ).mem (win0_0.arr.view.loc (c : Thread nD τ)) :=
  (dats (F := F) m ρ 0 c).arrAt_in (0 : Fin 2) rfl _

omit [FloatOps F] in
/-- The one block of a window is its whole array: of the argument's, -/
theorem blk_x (f : (Sh 2048).Idx → F .f32) : (win0_0.blk (0 : Fin 1)).view.read (Elt F) f = f :=
  funext fun i => congrArg f (funext fun a => Fin.ext (by fin_cases a <;> exact (Nat.zero_add _).trans (Nat.one_mul _)))
omit [FloatOps F] in
/-- and of the result's. -/
theorem blk_o (f : (Sh 2048).Idx → F .f32) : (win0_1.blk (0 : Fin 1)).view.read (Elt F) f = f :=
  funext fun i => congrArg f (funext fun a => Fin.ext (by fin_cases a <;> exact (Nat.zero_add _).trans (Nat.one_mul _)))

/-- The devices' blocks of the argument. -/
def blocks : Fin 32 → (Sh 2048).Idx → F .f32 := fun c => m (Thread.loc (Dev.tc (c : Dev nD)) main_arg0)

/-- The result's array holds after the run the result computed from the devices' blocks. -/
theorem finalA_o (c : Dev nD) : finalA m ρ c (1 : Fin 2) = result (blocks m) c := by
  have hx : xs m ρ = blocks m := funext fun d => blk_x (blocks m d)
  refine (blk_o _).symm.trans ((?_ : _ = outAt m ρ c).trans (by unfold outAt; rw [hx]))
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- The run, told of the program's argument and result. -/
theorem run_result : θ_run defs (onTc (τ := τ) (main (F := F))) ⟨m, fun _ => 0, ρ⟩ (fun r =>
    (∀ c : Dev nD, r.2.mem ((c.tc : Thread nD τ).loc main_v1) = result (blocks m) c
      ∧ r.2.mem ((c.tc : Thread nD τ).loc main_arg0) = m ((c.tc : Thread nD τ).loc main_arg0)) ∧ r.2.sem = fun _ => 0) :=
  (θ_run defs _ _).mono (fun _ h => ⟨fun c => ⟨(h.1 c (1 : Fin 2)).trans (finalA_o m ρ c), (h.1 c (0 : Fin 2)).trans (finalA_x m ρ c)⟩, h.2⟩)
    (run_main m ρ)

end Cert.KernelIdealProof

end
-- ==== Proof.Total.lean ====
/-
  The result over the extended reals, where changing format is the identity and addition is commutative: on every
  device, the function applied to the sum of all 32 blocks. The reference's term is the same.
-/
module

public import proofs.«01_k».proof.Proof.Contents
public import proofs.«01_k».proof.Proof.Gen.ReferenceIdeal.Run
public import Idealize.ShloMosaic.Lib.Pointwise.Reduce
public import Idealize.ShloMosaic.Lib.IdealHost

@[expose] public section

noncomputable section

namespace Cert.Mesh

open Idealize.ShloMosaic
open scoped BigOperators

/-! ## The exchange -/

/-- The devices whose blocks device `c` has summed after `r` rounds along half `p`'s dimensions. -/
def group (p : Fin 2) : ℕ → Fin 32 → List (Fin 32)
  | 0, c => [c]
  | r + 1, c => group p r c ++ group p r (pr (dimN p r) c)

/-- After five rounds they are all of them, each once. -/
theorem group_all : ∀ (p : Fin 2) (c : Fin 32), (group p 5 c).Perm (List.finRange 32) := by decide +kernel

variable (x : Fin 32 → (Sh 2048).Idx → Ideal .f32)

/-- The sum of all blocks. -/
def total : (Sh 2048).Idx → EReal := fun i => ∑ d : Fin 32, (x d i : EReal)

theorem part_sum_group (p : Fin 2) (i : (Sh 2048).Idx) : ∀ (r : ℕ) (c : Fin 32),
    (part_sum x p r c i : EReal) = ((group p r c).map fun d => (x d i : EReal)).sum
  | 0, c => (List.sum_singleton (α := EReal)).symm
  | r + 1, c => by
    show (part_sum x p r c i : EReal) + part_sum x p r (pr (dimN p r) c) i = _
    rw [part_sum_group p i r c, part_sum_group p i r _]
    exact (List.sum_append.symm.trans (congrArg List.sum List.map_append.symm))

theorem part_sum_total (p : Fin 2) (c : Fin 32) (i : (Sh 2048).Idx) : part_sum x p 5 c i = total x i := by
  refine (part_sum_group x p i 5 c).trans ((List.Perm.sum_eq ((group_all p c).map _)).trans ?_)
  unfold total
  rw [← List.ofFn_eq_map, List.sum_ofFn]

theorem result_total (c : Fin 32) : result x c = fun i => act (F := Ideal) (total x i) := by
  funext i
  have h (d : Fin 32) : final x d i = act (F := Ideal) (total x i) := by unfold final; rw [part_sum_total]
  show (if _ then final x c i else final x (owner (row i / 32)) i) = _
  rw [h, h, ite_self]

/-! ## The reference -/

open Cert.ReferenceIdeal Cert.ReferenceIdeal.Gen

/-- The reference's sum: the whole argument as 32 blocks, summed. -/
def refSum (w : S65536x1024.Idx → Ideal .f32) : S2048x1024.Idx → Ideal .f32 :=
  Host.reduceAdd (shapeCast S32x2048x1024 w shapeCasts_S65536x1024_S32x2048x1024) (constant S_ .f32 0x00000000#32) reducesTo_S32x2048x1024_S2048x1024_d0 h_S_

/-- Splitting the rows in 32 blocks: row `j` of block `k` is row `2048·k + j`. -/
theorem split_apply (w : S65536x1024.Idx → Ideal .f32) (k : Fin 32) (i : S2048x1024.Idx) (h : Layout.Tiles (Sh 2048) (Sh 65536) 0 32)
    (a : Fin 2048) (b : Fin 1024) (ha : a.val = (i 0).val) (hb : b.val = (i 1).val) :
    shapeCast S32x2048x1024 w shapeCasts_S65536x1024_S32x2048x1024 (ix3 k a b) = w (h.idx k i) := by
  unfold shapeCast
  refine congrArg w (Shape.reshapeEquiv_eq_of_rowMajor _ ?_)
  show (Shape.rowMajorPi S65536x1024.size (h.idx k i)).val = (Shape.rowMajorPi S32x2048x1024.size (ix3 k a b)).val
  rw [Shape.rowMajorPi_succ_val, Shape.rowMajorPi_succ_val, Shape.rowMajorPi_succ_val, Shape.rowMajorPi_succ_val,
    Shape.rowMajorPi_succ_val]
  have c0 : (h.idx k i 0).val = k.val * 2048 + (i 0).val := rfl
  have c1 : (h.idx k i 1).val = (i 1).val := rfl
  simp [Fin.prod_univ_succ, Shape.rowMajorPi_zero, c0, c1, ← ha, ← hb]
  omega

theorem refSum_total (w : S65536x1024.Idx → Ideal .f32) (h : Layout.Tiles (Sh 2048) (Sh 65536) 0 32) :
    refSum w = total fun d => Layout.block (Sh 2048) (Sh 65536) 0 32 d w h := by
  funext i
  refine (Ideal.hostReduceAdd_r3_a0 reducesTo_S32x2048x1024_S2048x1024_d0 _ _ i).trans ?_
  refine (congrArg₂ (· + ·) Ideal.ofBits_zero_f32 (Finset.sum_congr rfl fun k _ => split_apply w k i h _ _ rfl rfl)).trans (zero_add _)

end Cert.Mesh

end
-- ==== Proof.lean ====
/-
  The claims about the exchange. The run of the kernel over the extended reals and of the reference give the frames and
  the value; the kernel as compiled for the chip is the same program, so its frame is the same run at other values.
-/
module

public import proofs.«01_k».proof.Defs
public import proofs.«01_k».proof.Proof.KernelIdealLaunch
public import proofs.«01_k».proof.Proof.Total
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem Cert.Mesh

section Same
attribute [local instance] Cert.Kernel.Gen.facts Cert.KernelIdeal.Gen.facts
variable {F : FTy → Type} [FloatOps F]

/-! ## The two printings of the kernel are one program -/

theorem defs₀_same : Cert.Kernel.defs₀ (F := F) = Cert.KernelIdeal.defs₀ :=
  congrArg Defs.onTc (funext fun ℓ => match ℓ with
    | 0 => funext fun ⟨_, _⟩ => rfl
    | ⟨_ + 1, h⟩ => absurd h (Nat.not_lt.2 (Nat.le_add_left _ _)))

theorem defs_same : Cert.Kernel.defs (F := F) = Cert.KernelIdeal.defs := congrArg (Pipeline.defs Cert.KernelIdeal.pcfgs) defs₀_same

theorem main_same : Cert.Kernel.main (F := F) = Cert.KernelIdeal.main := rfl

/-! ## The frames -/

theorem frame_kernel : Cert.quiescent_Kernel := by
  intro m ρ _
  have h := Cert.KernelIdealProof.run_result (F := Bits) m ρ
  rw [← defs_same, ← main_same] at h
  exact (θ_run Cert.Kernel.defs _ _).mono (fun _ h => ⟨fun c => (h.1 c).2, h.2⟩) h

theorem frame_ideal : Cert.quiescent_KernelIdeal := fun m ρ _ =>
  (θ_run Cert.KernelIdeal.defs _ _).mono (fun _ h => ⟨fun c => (h.1 c).2, h.2⟩) (Cert.KernelIdealProof.run_result (F := Ideal) m ρ)
end Same

section Reference
attribute [local instance] Cert.ReferenceIdeal.Gen.facts

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
end Reference

/-! ## The value -/

section Value
attribute [local instance] Cert.KernelIdeal.Gen.facts Cert.ReferenceIdeal.Gen.facts

/-- Each device's result is the function of the sum of all blocks, as the reference's is. -/
theorem value : Cert.algebraic_KernelIdeal_ReferenceIdeal := by
  intro m ρ m' ρ' _ hin
  have hb : Cert.KernelIdealProof.blocks (F := Ideal) m = fun d => Layout.block (Sh 2048) (Sh 65536) 0 32 d (m' (Thread.loc (Dev.tc (0 : Dev Cert.ReferenceIdeal.nD)) Cert.ReferenceIdeal.main_arg0)) :=
    funext fun d => hin d
  refine ⟨fun i => act (F := Ideal) (refSum (m' (Thread.loc (Dev.tc (0 : Dev Cert.ReferenceIdeal.nD)) Cert.ReferenceIdeal.main_arg0)) i), ?_, ?_⟩
  · refine (θ_run Cert.KernelIdeal.defs _ _).mono (fun _ h c => ⟨(h.1 c).1.trans ?_, (h.1 c).2⟩) (Cert.KernelIdealProof.run_result (F := Ideal) m ρ)
    rw [result_total, hb, refSum_total _ (by decide)]
    rfl
  · exact (θ_run Cert.ReferenceIdeal.defs _ _).mono (fun _ h => ⟨(h 0).1.trans rfl, (h 0).2⟩) (Cert.ReferenceIdeal.Value.run (F := Ideal) m' ρ')
end Value

theorem claim : Cert.Claim := ⟨Cert.Kernel.Gen.facts, Cert.KernelIdeal.Gen.facts, Cert.ReferenceIdeal.Gen.facts,
  frame_kernel, frame_ideal, frame_reference, trivial, value⟩

end Cert.Proof

end
